-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x128x16384 : Shape := ⟨3, ![16, 128, 16384]⟩
abbrev S128 : Shape := ⟨1, ![128]⟩
abbrev S_ : Shape := ⟨0, ![]⟩

class Facts : Prop where
  bcast_S_S16x128x16384 : S_.BroadcastsInDim S16x128x16384 (![] : Fin 0 → Fin S16x128x16384.rank)
  reducesTo_S16x128x16384_S_d0_1_2 : S16x128x16384.ReducesTo [0, 1, 2] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S16x128x16384 .f32) (main_arg1 : FVec F S128 .f32) (main_arg2 : FVec F S128 .f32) : IVec S_ 1 :=
  let main_v0 : FVec F S16x128x16384 .f32 := Host.absf main_arg0
  let main_cst : FVec F S_ .f32 := constant S_ .f32 0x7F800000#32
  let main_v1 : FVec F S16x128x16384 .f32 := broadcastInDim S16x128x16384 ![] bcast_S_S16x128x16384 main_cst
  let main_v2 : IVec S16x128x16384 1 := cmpf .olt main_v0 main_v1
  let main_c : IVec S_ 1 := constantI S_ 1 1#1
  let main_v3 : IVec S_ 1 := (fun x v => Host.reduce IntOp.andi x v reducesTo_S16x128x16384_S_d0_1_2 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Kernel.lean ====
abbrev S16x128x16384 : Shape := ⟨3, ![16, 128, 16384]⟩
abbrev S128 : Shape := ⟨1, ![128]⟩
abbrev S1x128 : Shape := ⟨2, ![1, 128]⟩
abbrev S16x128x4095 : Shape := ⟨3, ![16, 128, 4095]⟩
abbrev S1x128x16384 : Shape := ⟨3, ![1, 128, 16384]⟩
abbrev S1x128x256 : Shape := ⟨3, ![1, 128, 256]⟩
abbrev S16392x128 : Shape := ⟨2, ![16392, 128]⟩
abbrev S1x128x128 : Shape := ⟨3, ![1, 128, 128]⟩
abbrev S128x128 : Shape := ⟨2, ![128, 128]⟩
abbrev S8x128 : Shape := ⟨2, ![8, 128]⟩
abbrev S32x128 : Shape := ⟨2, ![32, 128]⟩

abbrev nBuf : Space → Nat
  | .hbm => 6
  | .vmem => 7
  | .smem => 0
  | _ => 0

abbrev bufTy : (tb : Table) → Fin (tcTables nBuf tb) → BufTy
  | .hbm, ⟨0, _⟩ => ⟨S16x128x16384, .f32⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S16x128x4095, .f32⟩
  | .local _ .vmem, ⟨0, _⟩ => ⟨S1x128, .f32⟩
  | .local _ .vmem, ⟨1, _⟩ => ⟨S1x128, .f32⟩
  | .local _ .vmem, ⟨2, _⟩ => ⟨S1x128x16384, .f32⟩
  | .local _ .vmem, ⟨3, _⟩ => ⟨S1x128x16384, .f32⟩
  | .local _ .vmem, ⟨4, _⟩ => ⟨S1x128x256, .f32⟩
  | .local _ .vmem, ⟨5, _⟩ => ⟨S1x128x256, .f32⟩
  | .local _ .vmem, ⟨6, _⟩ => ⟨S16392x128, .f32⟩
  | _, _ => ⟨S16x128x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 16], ![false, false]⟩

def k0_off1 (i : grid0.Coords) (c0_i32_11 : BitVec 32) (c0_i32_12 : BitVec 32) : Fin 2 → Nat :=
  let arg1 : BitVec 32 := BitVec.ofNat 32 (i 1).val
  let c1024_i32 : BitVec 32 := 1024#32
  let v24 : BitVec 32 := Scalar.muli arg1 c1024_i32
  let v25 : BitVec 32 := Scalar.addi v24 c0_i32_11
  let v26 : BitVec 32 := Scalar.addi v25 c0_i32_12
  let v27 : Index := Scalar.indexCast v26
  let c0_13 : Index := 0#32
  ![v27.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16x128x16384 : Shape := ⟨3, ![16, 128, 16384]⟩
abbrev S128 : Shape := ⟨1, ![128]⟩
abbrev S4095 : Shape := ⟨1, ![4095]⟩
abbrev S_ : Shape := ⟨0, ![]⟩
abbrev S4095x1 : Shape := ⟨2, ![4095, 1]⟩
abbrev S8 : Shape := ⟨1, ![8]⟩
abbrev S1x8 : Shape := ⟨2, ![1, 8]⟩
abbrev S4095x8 : Shape := ⟨2, ![4095, 8]⟩
abbrev S4095x8x1 : Shape := ⟨3, ![4095, 8, 1]⟩
abbrev S16x128x4095x8 : Shape := ⟨4, ![16, 128, 4095, 8]⟩
abbrev S1x128x1 : Shape := ⟨3, ![1, 128, 1]⟩
abbrev S16x128x4095 : Shape := ⟨3, ![16, 128, 4095]⟩
abbrev S1x128x1x1 : Shape := ⟨4, ![1, 128, 1, 1]⟩
abbrev S16x128x4095x1 : Shape := ⟨4, ![16, 128, 4095, 1]⟩

abbrev nBuf : Space → Nat
  | .hbm => 93
  | .vmem => 0
  | .smem => 0
  | _ => 0

abbrev bufTy : (tb : Table) → Fin (tcTables nBuf tb) → BufTy
  | .hbm, ⟨0, _⟩ => ⟨S16x128x16384, .f32⟩
  | .hbm, ⟨1, _⟩ => ⟨S128, .f32⟩
  | .hbm, ⟨2, _⟩ => ⟨S128, .f32⟩
  | .hbm, ⟨3, _⟩ => ⟨S4095, .i32⟩
  | .hbm, ⟨4, _⟩ => ⟨S_, .i32⟩
  | .hbm, ⟨5, _⟩ => ⟨S4095, .i32⟩
  | .hbm, ⟨6, _⟩ => ⟨S4095, .i32⟩
  | .hbm, ⟨7, _⟩ => ⟨S4095x1, .i32⟩
  | .hbm, ⟨8, _⟩ => ⟨S8, .i32⟩
  | .hbm, ⟨9, _⟩ => ⟨S1x8, .i32⟩
  | .hbm, ⟨10, _⟩ => ⟨S4095x8, .i32⟩
  | .hbm, ⟨11, _⟩ => ⟨S4095x8, .i32⟩
  | .hbm, ⟨12, _⟩ => ⟨S4095x8, .i32⟩
  | .hbm, ⟨13, _⟩ => ⟨S_, .i32⟩
  | .hbm, ⟨14, _⟩ => ⟨S4095x8, .i32⟩
  | .hbm, ⟨15, _⟩ => ⟨S4095x8, .i1⟩
  | .hbm, ⟨16, _⟩ => ⟨S_, .i32⟩
  | .hbm, ⟨17, _⟩ => ⟨S4095x8, .i32⟩
  | .hbm, ⟨18, _⟩ => ⟨S4095x8, .i32⟩
  | .hbm, ⟨19, _⟩ => ⟨S4095x8, .i32⟩
  | .hbm, ⟨20, _⟩ => ⟨S4095x8x1, .i32⟩
  | .hbm, ⟨21, _⟩ => ⟨S16x128x4095x8, .f32⟩
  | .hbm, ⟨22, _⟩ => ⟨S128, .f32⟩
  | .hbm, ⟨23, _⟩ => ⟨S128, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S1x128x1, .f32⟩
  | .hbm, ⟨31, _⟩ => ⟨S128, .f32⟩
  | .hbm, ⟨32, _⟩ => ⟨S1x128x1, .f32⟩
  | .hbm, ⟨33, _⟩ => ⟨S_, .f32⟩
  | .hbm, ⟨34, _⟩ => ⟨S16x128x4095, .f32⟩
  | .hbm, ⟨35, _⟩ => ⟨S_, .f32⟩
  | .hbm, ⟨36, _⟩ => ⟨S1x128x1, .f32⟩
  | .hbm, ⟨37, _⟩ => ⟨S1x128x1, .f32⟩
  | .hbm, ⟨38, _⟩ => ⟨S16x128x4095, .f32⟩
  | .hbm, ⟨39, _⟩ => ⟨S16x128x4095, .f32⟩
  | .hbm, ⟨40, _⟩ => ⟨S_, .f32⟩
  | .hbm, ⟨41, _⟩ => ⟨S16x128x4095, .f32⟩
  | .hbm, ⟨42, _⟩ => ⟨S_, .f32⟩
  | .hbm, ⟨43, _⟩ => ⟨S1x128x1, .f32⟩
  | .hbm, ⟨44, _⟩ => ⟨S1x128x1, .f32⟩
  | .hbm, ⟨45, _⟩ => ⟨S16x128x4095, .f32⟩
  | .hbm, ⟨46, _⟩ => ⟨S16x128x4095, .f32⟩
  | .hbm, ⟨47, _⟩ => ⟨S_, .i32⟩
  | .hbm, ⟨48, _⟩ => ⟨S_, .i32⟩
  | .hbm, ⟨49, _⟩ => ⟨S1x128x1, .f32⟩
  | .hbm, ⟨50, _⟩ => ⟨S16x128x4095x8, .f32⟩
  | .hbm, ⟨51, _⟩ => ⟨S1x128x1, .f32⟩
  | .hbm, ⟨52, _⟩ => ⟨S_, .i32⟩
  | .hbm, ⟨53, _⟩ => ⟨S_, .i32⟩
  | .hbm, ⟨54, _⟩ => ⟨S16x128x4095, .f32⟩
  | .hbm, ⟨55, _⟩ => ⟨S16x128x4095, .f32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S16x128x4095, .f32⟩
  | .hbm, ⟨61, _⟩ => ⟨S_, .f32⟩
  | .hbm, ⟨62, _⟩ => ⟨S16x128x4095, .f32⟩
  | .hbm, ⟨63, _⟩ => ⟨S16x128x4095, .f32⟩
  | .hbm, ⟨64, _⟩ => ⟨S1x128x1x1, .f32⟩
  | .hbm, ⟨65, _⟩ => ⟨S16x128x4095x1, .f32⟩
  | .hbm, ⟨66, _⟩ => ⟨S16x128x4095x8, .f32⟩
  | .hbm, ⟨67, _⟩ => ⟨S16x128x4095x8, .f32⟩
  | .hbm, ⟨68, _⟩ => ⟨S16x128x4095x8, .f32⟩
  | .hbm, ⟨69, _⟩ => ⟨S16x128x4095x8, .f32⟩
  | .hbm, ⟨70, _⟩ => ⟨S16x128x4095x8, .f32⟩
  | .hbm, ⟨71, _⟩ => ⟨S16x128x4095x8, .f32⟩
  | .hbm, ⟨72, _⟩ => ⟨S_, .f32⟩
  | .hbm, ⟨73, _⟩ => ⟨S16x128x4095x8, .f32⟩
  | .hbm, ⟨74, _⟩ => ⟨S16x128x4095x8, .f32⟩
  | .hbm, ⟨75, _⟩ => ⟨S_, .f32⟩
  | .hbm, ⟨76, _⟩ => ⟨S16x128x4095x8, .f32⟩
  | .hbm, ⟨77, _⟩ => ⟨S16x128x4095x8, .f32⟩
  | .hbm, ⟨78, _⟩ => ⟨S_, .f32⟩
  | .hbm, ⟨79, _⟩ => ⟨S16x128x4095, .f32⟩
  | .hbm, ⟨80, _⟩ => ⟨S_, .f32⟩
  | .hbm, ⟨81, _⟩ => ⟨S16x128x4095, .f32⟩
  | .hbm, ⟨82, _⟩ => ⟨S16x128x4095, .f32⟩
  | .hbm, ⟨83, _⟩ => ⟨S16x128x4095, .f32⟩
  | .hbm, ⟨84, _⟩ => ⟨S16x128x4095, .i1⟩
  | .hbm, ⟨85, _⟩ => ⟨S16x128x4095, .f32⟩
  | .hbm, ⟨86, _⟩ => ⟨S16x128x4095, .f32⟩
  | .hbm, ⟨87, _⟩ => ⟨S_, .i32⟩
  | .hbm, ⟨88, _⟩ => ⟨S_, .i32⟩
  | .hbm, ⟨89, _⟩ => ⟨S16x128x4095, .f32⟩
  | .hbm, ⟨90, _⟩ => ⟨S_, .f32⟩
  | .hbm, ⟨91, _⟩ => ⟨S16x128x4095, .f32⟩
  | .hbm, ⟨92, _⟩ => ⟨S16x128x4095, .f32⟩
  | _, _ => ⟨S16x128x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_7 : Ref sig .tc := ⟨.hbm, 47, rfl⟩
abbrev main_c_8 : Ref sig .tc := ⟨.hbm, 48, rfl⟩
abbrev main_v35_0 : Ref sig .tc := ⟨.hbm, 49, rfl⟩
abbrev main_v35_1 : Ref sig .tc := ⟨.hbm, 50, rfl⟩
abbrev main_v35_2 : Ref sig .tc := ⟨.hbm, 51, rfl⟩
abbrev main_v35_3 : Ref sig .tc := ⟨.hbm, 52, rfl⟩
abbrev main_v35_4 : Ref sig .tc := ⟨.hbm, 53, rfl⟩
abbrev main_v35_5 : Ref sig .tc := ⟨.hbm, 54, rfl⟩
abbrev main_v35_6 : Ref sig .tc := ⟨.hbm, 55, rfl⟩
abbrev main_while0c_c_16 : Ref sig .tc := ⟨.hbm, 56, rfl⟩
abbrev main_while0c_v39 : Ref sig .tc := ⟨.hbm, 57, rfl⟩
abbrev main_while0b_c_16 : Ref sig .tc := ⟨.hbm, 58, rfl⟩
abbrev main_while0b_v39 : Ref sig .tc := ⟨.hbm, 59, rfl⟩
abbrev main_while0b_v40 : Ref sig .tc := ⟨.hbm, 60, rfl⟩
abbrev main_while0b_cst_17 : Ref sig .tc := ⟨.hbm, 61, rfl⟩
abbrev main_while0b_v41 : Ref sig .tc := ⟨.hbm, 62, rfl⟩
abbrev main_while0b_v42 : Ref sig .tc := ⟨.hbm, 63, rfl⟩
abbrev main_while0b_v43 : Ref sig .tc := ⟨.hbm, 64, rfl⟩
abbrev main_while0b_v44 : Ref sig .tc := ⟨.hbm, 65, rfl⟩
abbrev main_while0b_v45 : Ref sig .tc := ⟨.hbm, 66, rfl⟩
abbrev main_while0b_v46 : Ref sig .tc := ⟨.hbm, 67, rfl⟩
abbrev main_while0b_v47 : Ref sig .tc := ⟨.hbm, 68, rfl⟩
abbrev main_while0b_v48 : Ref sig .tc := ⟨.hbm, 69, rfl⟩
abbrev main_while0b_v49 : Ref sig .tc := ⟨.hbm, 70, rfl⟩
abbrev main_while0b_v50 : Ref sig .tc := ⟨.hbm, 71, rfl⟩
abbrev main_while0b_cst_18 : Ref sig .tc := ⟨.hbm, 72, rfl⟩
abbrev main_while0b_v51 : Ref sig .tc := ⟨.hbm, 73, rfl⟩
abbrev main_while0b_v52 : Ref sig .tc := ⟨.hbm, 74, rfl⟩
abbrev main_while0b_cst_19 : Ref sig .tc := ⟨.hbm, 75, rfl⟩
abbrev main_while0b_v53 : Ref sig .tc := ⟨.hbm, 76, rfl⟩
abbrev main_while0b_v54 : Ref sig .tc := ⟨.hbm, 77, rfl⟩
abbrev main_while0b_cst_20 : Ref sig .tc := ⟨.hbm, 78, rfl⟩
abbrev main_while0b_v55 : Ref sig .tc := ⟨.hbm, 79, rfl⟩
abbrev main_while0b_cst_21 : Ref sig .tc := ⟨.hbm, 80, rfl⟩
abbrev main_while0b_v56 : Ref sig .tc := ⟨.hbm, 81, rfl⟩
abbrev main_while0b_v57 : Ref sig .tc := ⟨.hbm, 82, rfl⟩
abbrev main_while0b_v58 : Ref sig .tc := ⟨.hbm, 83, rfl⟩
abbrev main_while0b_v59 : Ref sig .tc := ⟨.hbm, 84, rfl⟩
abbrev main_while0b_v60 : Ref sig .tc := ⟨.hbm, 85, rfl⟩
abbrev main_while0b_v61 : Ref sig .tc := ⟨.hbm, 86, rfl⟩
abbrev main_while0b_c_22 : Ref sig .tc := ⟨.hbm, 87, rfl⟩
abbrev main_while0b_v62 : Ref sig .tc := ⟨.hbm, 88, rfl⟩
abbrev main_v36 : Ref sig .tc := ⟨.hbm, 89, rfl⟩
abbrev main_cst_9 : Ref sig .tc := ⟨.hbm, 90, rfl⟩
abbrev main_v37 : Ref sig .tc := ⟨.hbm, 91, rfl⟩
abbrev main_v38 : Ref sig .tc := ⟨.hbm, 92, rfl⟩

abbrev nD : Nat := 1
abbrev τ : Topo := Topo.v7x

variable {F : FTy → Type} [FloatOps F]

abbrev main_while0_count : Scf.Loop 32 := ⟨0#32, 20#32, 1#32⟩
-- ==== Proof.Owned.lean ====
/-
  Loads and stores of a buffer held by what it reads as: a load returns the contents at the rectangle, a store puts the
  stored value into the rectangle and leaves the other elements.
-/
module

public import proofs.«01_k».proof.Proof.Gen.KernelIdeal.Frame

@[expose] public section

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The contents `X` with the value `w` put into the rectangle `r`. -/
def put {s : Shape} {e : EltTy} (r : Rect s) (w : r.shape.Idx → Elt F e) (X : s.Idx → Elt F e) : s.Idx → Elt F e :=
  open Classical in fun y => if h : ∃ x, r.emb x = y then w h.choose else X y

/-- Inside the rectangle the value is read. -/
theorem put_emb {s : Shape} {e : EltTy} (r : Rect s) (w : r.shape.Idx → Elt F e) (X : s.Idx → Elt F e) (x : r.shape.Idx) :
    put r w X (r.emb x) = w x := by
  have h : ∃ x', r.emb x' = r.emb x := ⟨x, rfl⟩
  rw [put, dif_pos h]
  exact congrArg w (r.emb.injective h.choose_spec)

/-- Outside it the contents are as before. -/
theorem put_miss {s : Shape} {e : EltTy} (r : Rect s) (w : r.shape.Idx → Elt F e) (X : s.Idx → Elt F e) (y : s.Idx)
    (h : ∀ x, r.emb x ≠ y) : put r w X y = X y := by
  rw [put, dif_neg (fun ⟨x, hx⟩ => h x hx)]

/-- A load of a buffer held at contents `X` returns `X` at the rectangle and hands the buffer back. -/
theorem load_owned (c : Dev nD) (E : Set ℕ) {cs : CoreSpace} {s : Shape} {e : EltTy} {m : Memref sig .tc cs s e}
    {r : LoadRect s} {hl : m.view.LoadsAt r} {q : PosShare TreeShare} {X : s.Idx → Elt F e}
    {Q : (r.shape.Idx → Elt F e) → sProp 𝕄} :
    iprop(owns (c : Thread nD τ) m q X ∗ (owns (c : Thread nD τ) m q X -∗ Q (fun x => X (r.idx x))))
      ⊢ wp frame (wpE (defs₀ (F := F)) Variants.none c none) E (Prog.lift (.load m r hl)) Q := by
  unfold owns
  iintro ⟨⟨%f, %hf, H⟩, HQ⟩
  iapply (wp_load Variants.none (c : Thread nD τ) none E (Q := Q) (k := .ret) (hl := hl) (r := r) (f := f) (q := q) (S := m.view.set)
    (Finset.map_subset_map.mpr (Finset.subset_univ _))) $$ H
  iintro H
  rw [wp_ret]
  imodintro
  have e : m.view.readAt (Elt F) r f = fun x => X (r.idx x) := by
    funext x; rw [View.readAt_apply, hf]
  rw [e]
  iapply HQ
  iexists f
  isplitr
  · ipureintro; exact hf
  iexact H

/-- An unmasked store into a buffer held at contents `X` hands it back at `put r w X`. -/
theorem store_owned (c : Dev nD) (E : Set ℕ) {cs : CoreSpace} {s : Shape} {e : EltTy} {m : Memref sig .tc cs s e}
    {r : Rect s} {w : r.shape.Idx → Elt F e} {hx : (m.access r).Stores Finset.univ}
    {hm : Finset.univ = Finset.univ ∨ ∀ a, r.stride a = 1} {X : s.Idx → Elt F e} {Q : PUnit → sProp 𝕄} :
    iprop(owns (c : Thread nD τ) m fullShare X ∗ (owns (c : Thread nD τ) m fullShare (put r w X) -∗ Q ⟨⟩))
      ⊢ wp frame (wpE (defs₀ (F := F)) Variants.none c none) E (Prog.lift (.store m r w Finset.univ hx hm)) Q := by
  unfold owns
  iintro ⟨⟨%f, %hf, H⟩, HQ⟩
  iapply (wp_store Variants.none (c : Thread nD τ) none E (Q := Q) (k := .ret) (hx := hx) (hm := hm) (r := r) (w := w) (f := f)
    (S := m.view.set) (Memref.setOn_access_subset m r Finset.univ)) $$ H
  iintro H
  rw [wp_ret]
  imodintro
  iapply HQ
  iexists _
  isplitr
  rotate_left
  · iexact H
  ipureintro
  funext y
  by_cases hy : ∃ x, r.emb x = y
  · obtain ⟨x, rfl⟩ := hy
    rw [put_emb]
    exact View.read_slice_write_emb (v := m.view) r f w (Finset.mem_univ x)
  · rw [put_miss r w X y (fun x hx => hy ⟨x, hx⟩), ← hf]
    exact View.read_slice_write_of_not_mem (v := m.view) r f w Finset.univ (fun h => by
      obtain ⟨x, -, hx⟩ := Finset.mem_map.mp h
      exact hy ⟨x, hx⟩)

end Cert.KernelIdeal.Pool

end
-- ==== Proof.Body.lean ====
/-
  The kernel body of `KernelIdeal` as a short structured program: two small operand reads, a fill of the scratch by a
  loop over its 128 tiles when the inner grid coordinate is 0, eight chunks of the bisection, and two stores of the
  output block. `body_eq`: the printed body is this program.
-/
module

public import proofs.«01_k».proof.Proof.Gen.KernelIdeal.Skeleton

@[expose] public section

noncomputable section

namespace Cert.KernelIdeal.Pool

open Idealize.ShloMosaic Idealize.SL.Sem Cert.KernelIdeal Cert.KernelIdeal.Gen

variable {F : FTy → Type} [FloatOps F]

/-! ## What one chunk computes -/

/-- The centre after one bisection step: moved down by `d` where the sum of the eight `tanh` exceeds the threshold,
    up by `d` elsewhere. -/
def centre (t8 : FVec F S1x128 .f32) (v0 v1 v2 v3 v4 v5 v6 v7 y d : FVec F S32x128 .f32) : FVec F S32x128 .f32 :=
  addf y (select
    (cmpf .ogt
      (addf
        (addf (addf (tanh (subf y v0)) (tanh (subf y v1))) (addf (tanh (subf y v2)) (tanh (subf y v3))))
        (addf (addf (tanh (subf y v4)) (tanh (subf y v5))) (addf (tanh (subf y v6)) (tanh (subf y v7)))))
      (broadcastTo S32x128 t8 broadcasts_S1x128_S32x128))
    (subf (broadcast S32x128 (Scalar.ofBits .f32 0x00000000#32)) d) d)

/-- The step length after one bisection step: half of it. -/
def halve (d : FVec F S32x128 .f32) : FVec F S32x128 .f32 :=
  mulf (broadcast S32x128 (Scalar.ofBits .f32 0x3F000000#32)) d

/-- The centre after `n` bisection steps from `y` with step length `d`. -/
def bisect (t8 : FVec F S1x128 .f32) (v0 v1 v2 v3 v4 v5 v6 v7 : FVec F S32x128 .f32) :
    ℕ → FVec F S32x128 .f32 → FVec F S32x128 .f32 → FVec F S32x128 .f32
  | 0, y, _ => y
  | n + 1, y, d => bisect t8 v0 v1 v2 v3 v4 v5 v6 v7 n (centre t8 v0 v1 v2 v3 v4 v5 v6 v7 y d) (halve d)

/-- The first centre: the middle of the eight values. -/
def middle (v0 v1 v2 v3 v4 v5 v6 v7 : FVec F S32x128 .f32) : FVec F S32x128 .f32 :=
  mulf (broadcast S32x128 (Scalar.ofBits .f32 0x3F000000#32))
    (addf
      (minimumf (minimumf (minimumf (minimumf (minimumf (minimumf (minimumf v0 v1) v2) v3) v4) v5) v6) v7)
      (maximumf (maximumf (maximumf (maximumf (maximumf (maximumf (maximumf v0 v1) v2) v3) v4) v5) v6) v7))

/-- The first step length: a quarter of the spread of the eight values, and a half. -/
def spread (v0 v1 v2 v3 v4 v5 v6 v7 : FVec F S32x128 .f32) : FVec F S32x128 .f32 :=
  addf
    (mulf (broadcast S32x128 (Scalar.ofBits .f32 0x3E800000#32))
      (subf
        (maximumf (maximumf (maximumf (maximumf (maximumf (maximumf (maximumf v0 v1) v2) v3) v4) v5) v6) v7)
        (minimumf (minimumf (minimumf (minimumf (minimumf (minimumf (minimumf v0 v1) v2) v3) v4) v5) v6) v7)))
    (broadcast S32x128 (Scalar.ofBits .f32 0x3F000000#32))

/-- The eight scaled values to the result of one chunk. -/
def solve (t8 inv : FVec F S1x128 .f32) (v0 v1 v2 v3 v4 v5 v6 v7 : FVec F S32x128 .f32) : FVec F S32x128 .f32 :=
  mulf (bisect t8 v0 v1 v2 v3 v4 v5 v6 v7 20 (middle v0 v1 v2 v3 v4 v5 v6 v7) (spread v0 v1 v2 v3 v4 v5 v6 v7))
    (broadcastTo S32x128 inv broadcasts_S1x128_S32x128)

/-- One loaded slice of the scratch, scaled by half of alpha. -/
def scaled (ha : FVec F S1x128 .f32) (r : Vec F S32x128 .f32) : FVec F S32x128 .f32 :=
  mulf (broadcastTo S32x128 ha broadcasts_S1x128_S32x128) r

/-- Half of alpha, from the raw alpha. -/
def halfAlpha (a : Vec F S1x128 .f32) : FVec F S1x128 .f32 :=
  mulf (broadcast S1x128 (Scalar.ofBits .f32 0x3F000000#32)) (exp (shapeCast S1x128 a shapeCasts_S1x128_S1x128))

/-- The threshold of the sum of the eight `tanh`, from the raw quantile. -/
def threshold (q : Vec F S1x128 .f32) : FVec F S1x128 .f32 :=
  mulf (broadcast S1x128 (Scalar.ofBits .f32 0x41000000#32))
    (subf (mulf (broadcast S1x128 (Scalar.ofBits .f32 0x40000000#32)) (logistic (shapeCast S1x128 q shapeCasts_S1x128_S1x128)))
      (broadcast S1x128 (Scalar.ofBits .f32 0x3F800000#32)))

/-- Two over alpha, from the raw alpha. -/
def twoInvAlpha (a : Vec F S1x128 .f32) : FVec F S1x128 .f32 :=
  mulf (broadcast S1x128 (Scalar.ofBits .f32 0x40000000#32))
    (exp (subf (broadcast S1x128 (Scalar.ofBits .f32 0x00000000#32)) (shapeCast S1x128 a shapeCasts_S1x128_S1x128)))

/-- Four chunks stacked and transposed: a 128 x 128 half of the output block. -/
def stacked (r0 r1 r2 r3 : FVec F S32x128 .f32) : FVec F S1x128x128 .f32 :=
  shapeCast S1x128x128
    (transpose S128x128 [1, 0]
      (concatenate S128x128 0 [⟨S32x128, r0⟩, ⟨S32x128, r1⟩, ⟨S32x128, r2⟩, ⟨S32x128, r3⟩]
        concatenates_S32x128_S32x128_S32x128_S32x128_S128x128_d0)
      transposes_S128x128_p1_0_S128x128)
    shapeCasts_S128x128_S1x128x128

/-- A tile of the input block, transposed. -/
def flipped (x : Vec F S1x128x128 .f32) : FVec F S128x128 .f32 :=
  shapeCast S128x128
    (transpose S128x128 [1, 0] (shapeCast S128x128 x shapeCasts_S1x128x128_S128x128) transposes_S128x128_p1_0_S128x128)
    shapeCasts_S128x128_S128x128

/-! ## The body as a program -/

section Prog

variable (i : grid0.Coords) (arg2 arg3 : Memref sig .tc .vmem S1x128 .f32) (arg4 : Memref sig .tc .vmem S1x128x16384 .f32)
  (arg5 : Memref sig .tc .vmem S1x128x256 .f32) (arg6 : Memref sig .tc .vmem S16392x128 .f32)

/-- The lanes of one tile of the input block lie in the block. -/
theorem tile_src (t : Fin 128) : ∀ a, (![0, 0, 128 * t.val] : Fin 3 → ℕ) a + S1x128x128.size a ≤ S1x128x16384.size a := by
  intro a
  match a with
  | ⟨0, _⟩ => show 0 + 1 ≤ 1; omega
  | ⟨1, _⟩ => show 0 + 128 ≤ 128; omega
  | ⟨2, _⟩ => show 128 * t.val + 128 ≤ 16384; have := t.isLt; omega

/-- The rows of one tile of the scratch lie in the scratch. -/
theorem tile_dst (t : Fin 128) : ∀ a, (![128 * t.val, 0] : Fin 2 → ℕ) a + S128x128.size a ≤ S16392x128.size a := by
  intro a
  match a with
  | ⟨0, _⟩ => show 128 * t.val + 128 ≤ 16392; have := t.isLt; omega
  | ⟨1, _⟩ => show 0 + 128 ≤ 128; omega

/-- Tile `t` of the fill: read 128 lanes of the input block, read the scratch tile (the value is not used), store the
    transpose there. -/
def tile (t : Fin 128) : Prog (TpuEff nD τ sig (Elt F) Λ₀ .tc) PUnit := do
  let x : Vec F S1x128x128 .f32 ← Prog.lift (.load arg4 (Rect.unit (s := S1x128x16384) ![0, 0, 128 * t.val] S1x128x128.size (tile_src t)).toLoadRect (View.loadsAt_vmem h_S1x128x128))
  let _ : Vec F S128x128 .f32 ← Prog.lift (.load arg6 (Rect.unit (s := S16392x128) ![128 * t.val, 0] S128x128.size (tile_dst t)).toLoadRect (View.loadsAt_vmem h_S128x128))
  Prog.lift (.store arg6 (Rect.unit (s := S16392x128) ![128 * t.val, 0] S128x128.size (tile_dst t)) (flipped x) Finset.univ (View.stores_vmem_bits_univ h_S128x128 rfl) (.inl rfl))

/-- Five tiles of the fill, in order, from tile `o`. -/
def five (o : ℕ) (h : o + 5 ≤ 128) : Prog (TpuEff nD τ sig (Elt F) Λ₀ .tc) PUnit := do
  tile arg4 arg6 ⟨o, by omega⟩
  tile arg4 arg6 ⟨o + 1, by omega⟩
  tile arg4 arg6 ⟨o + 2, by omega⟩
  tile arg4 arg6 ⟨o + 3, by omega⟩
  tile arg4 arg6 ⟨o + 4, by omega⟩

/-- `n` times five tiles from tile `o`, then `k`. -/
def fives {α : Type} (k : Prog (TpuEff nD τ sig (Elt F) Λ₀ .tc) α) :
    (n o : ℕ) → o + 5 * n ≤ 128 → Prog (TpuEff nD τ sig (Elt F) Λ₀ .tc) α
  | 0, _, _ => k
  | n + 1, o, h => do
    five arg4 arg6 o (by omega)
    fives k n (o + 5) (by omega)

/-- The fill: every tile, then eight rows of zeros below them, then `k`. -/
def fill {α : Type} (k : Prog (TpuEff nD τ sig (Elt F) Λ₀ .tc) α) : Prog (TpuEff nD τ sig (Elt F) Λ₀ .tc) α :=
  fives arg4 arg6 (do
    tile arg4 arg6 125
    tile arg4 arg6 126
    tile arg4 arg6 127
    let _ : Vec F S8x128 .f32 ← Prog.lift (.load arg6 (Rect.unit (s := S16392x128) ![16384, 0] S8x128.size inb_S16392x128_S8x128_16384_0).toLoadRect (View.loadsAt_vmem h_S8x128))
    Prog.lift (.store arg6 (Rect.unit (s := S16392x128) ![16384, 0] S8x128.size inb_S16392x128_S8x128_16384_0) (k0_pay134 (F := F)) Finset.univ (View.stores_vmem_bits_univ h_S8x128 rfl) (.inl rfl))
    k) 25 0 (by omega)

/-- The strided slice of the scratch that chunk `j` reads at position `k` of the window. -/
def slice (j k : Fin 8) : LoadRect S16392x128 :=
  ⟨k0_off1 i (BitVec.ofNat 32 (128 * j.val)) (BitVec.ofNat 32 k.val), S32x128.size, ![4, 1], k0_off1_inb i j k⟩

/-- Chunk `j` after its first two reads: the other six strided reads of the scratch, then the bisection. -/
def chunkEnd (ha t8 inv : FVec F S1x128 .f32) (j : Fin 8) (v0 v1 : FVec F S32x128 .f32) :
    Prog (TpuEff nD τ sig (Elt F) Λ₀ .tc) (FVec F S32x128 .f32) := do
  let r2 : Vec F S32x128 .f32 ← Prog.lift (.load arg6 (slice i j 2) (View.loadsAt_vmem h_S32x128))
  let r3 : Vec F S32x128 .f32 ← Prog.lift (.load arg6 (slice i j 3) (View.loadsAt_vmem h_S32x128))
  let r4 : Vec F S32x128 .f32 ← Prog.lift (.load arg6 (slice i j 4) (View.loadsAt_vmem h_S32x128))
  let r5 : Vec F S32x128 .f32 ← Prog.lift (.load arg6 (slice i j 5) (View.loadsAt_vmem h_S32x128))
  let r6 : Vec F S32x128 .f32 ← Prog.lift (.load arg6 (slice i j 6) (View.loadsAt_vmem h_S32x128))
  let r7 : Vec F S32x128 .f32 ← Prog.lift (.load arg6 (slice i j 7) (View.loadsAt_vmem h_S32x128))
  pure (solve t8 inv v0 v1 (scaled ha r2) (scaled ha r3) (scaled ha r4) (scaled ha r5) (scaled ha r6) (scaled ha r7))

/-- Chunk `j`: eight strided reads of the scratch, then the bisection. -/
def chunk (ha t8 inv : FVec F S1x128 .f32) (j : Fin 8) : Prog (TpuEff nD τ sig (Elt F) Λ₀ .tc) (FVec F S32x128 .f32) := do
  let r0 : Vec F S32x128 .f32 ← Prog.lift (.load arg6 (slice i j 0) (View.loadsAt_vmem h_S32x128))
  let r1 : Vec F S32x128 .f32 ← Prog.lift (.load arg6 (slice i j 1) (View.loadsAt_vmem h_S32x128))
  chunkEnd i arg6 ha t8 inv j (scaled ha r0) (scaled ha r1)

/-- What the start of the body hands on: the inner coordinate, the three operand rows, the chunk's first row, the first
    two scaled slices of chunk 0 and a constant. -/
abbrev Head (F : FTy → Type) [FloatOps F] : Type :=
  Σ' (_ : BitVec 32) (_ : FVec F S1x128 .f32) (_ : FVec F S1x128 .f32) (_ : FVec F S1x128 .f32) (_ : BitVec 32)
    (_ : FVec F S32x128 .f32) (_ : FVec F S32x128 .f32), BitVec 32

/-- The first two reads of chunk 0. -/
def firstReads (ha t8 inv : FVec F S1x128 .f32) : Prog (TpuEff nD τ sig (Elt F) Λ₀ .tc) (Head F) := do
  let r0 : Vec F S32x128 .f32 ← Prog.lift (.load arg6 (slice i 0 0) (View.loadsAt_vmem h_S32x128))
  let r1 : Vec F S32x128 .f32 ← Prog.lift (.load arg6 (slice i 0 1) (View.loadsAt_vmem h_S32x128))
  pure ⟨BitVec.ofNat 32 (i 1).val, ha, t8, inv, Scalar.addi (Scalar.muli (BitVec.ofNat 32 (i 1).val) 1024#32) 0#32,
    scaled ha r0, scaled ha r1, 2#32⟩

/-- The start of the body: the operand reads, the fill where the inner coordinate is 0, the first two reads of chunk 0. -/
def start : Prog (TpuEff nD τ sig (Elt F) Λ₀ .tc) (Head F) := do
  let a : Vec F S1x128 .f32 ← Prog.lift (.load arg3 (Rect.unit (s := S1x128) ![0, 0] S1x128.size inb_S1x128_S1x128_0_0).toLoadRect (View.loadsAt_vmem h_S1x128))
  let q : Vec F S1x128 .f32 ← Prog.lift (.load arg2 (Rect.unit (s := S1x128) ![0, 0] S1x128.size inb_S1x128_S1x128_0_0).toLoadRect (View.loadsAt_vmem h_S1x128))
  let a' : Vec F S1x128 .f32 ← Prog.lift (.load arg3 (Rect.unit (s := S1x128) ![0, 0] S1x128.size inb_S1x128_S1x128_0_0).toLoadRect (View.loadsAt_vmem h_S1x128))
  if _h : (Scalar.cmpi .ne (Scalar.extui (Scalar.cmpi .eq (BitVec.ofNat 32 (i 1).val) 0#32)) 0#32) = 1#1 then
    fill arg4 arg6 (firstReads i arg6 (halfAlpha a) (threshold q) (twoInvAlpha a'))
  else firstReads i arg6 (halfAlpha a) (threshold q) (twoInvAlpha a')

/-- The rest of the body: the end of chunk 0, the other chunks and the two stores. -/
def rest (hd : Head F) : Prog (TpuEff nD τ sig (Elt F) Λ₀ .tc) PUnit :=
  match hd with
  | ⟨_, ha, t8, inv, _, v0, v1, _⟩ => do
    let c0 ← chunkEnd i arg6 ha t8 inv 0 v0 v1
    let c1 ← chunk i arg6 ha t8 inv 1
    let c2 ← chunk i arg6 ha t8 inv 2
    let c3 ← chunk i arg6 ha t8 inv 3
    let c4 ← chunk i arg6 ha t8 inv 4
    let c5 ← chunk i arg6 ha t8 inv 5
    let c6 ← chunk i arg6 ha t8 inv 6
    let c7 ← chunk i arg6 ha t8 inv 7
    let _ : Vec F S1x128x128 .f32 ← Prog.lift (.load arg5 (Rect.unit (s := S1x128x256) ![0, 0, 0] S1x128x128.size inb_S1x128x256_S1x128x128_0_0_0).toLoadRect (View.loadsAt_vmem h_S1x128x128))
    Prog.lift (.store arg5 (Rect.unit (s := S1x128x256) ![0, 0, 0] S1x128x128.size inb_S1x128x256_S1x128x128_0_0_0) (stacked c0 c1 c2 c3) Finset.univ (View.stores_vmem_bits_univ h_S1x128x128 rfl) (.inl rfl))
    let _ : Vec F S1x128x128 .f32 ← Prog.lift (.load arg5 (Rect.unit (s := S1x128x256) ![0, 0, 128] S1x128x128.size inb_S1x128x256_S1x128x128_0_0_128).toLoadRect (View.loadsAt_vmem h_S1x128x128))
    Prog.lift (.store arg5 (Rect.unit (s := S1x128x256) ![0, 0, 128] S1x128x128.size inb_S1x128x256_S1x128x128_0_0_128) (stacked c4 c5 c6 c7) Finset.univ (View.stores_vmem_bits_univ h_S1x128x128 rfl) (.inl rfl))

/-- The whole body. -/
def body : Prog (TpuEff nD τ sig (Elt F) Λ₀ .tc) PUnit :=
  start i arg2 arg3 arg4 arg6 >>= rest i arg5 arg6

end Prog

end Cert.KernelIdeal.Pool

end
-- ==== Proof.Fill.lean ====
/-
  The fill of the scratch: tile by tile the input block's transpose, then the rows of zeros, as contents and as triples.
-/
module

public import proofs.«01_k».proof.Proof.Owned
public import proofs.«01_k».proof.Proof.Body
public import Idealize.ShloMosaic.Lib.ValueIdx
public import Idealize.ShloMosaic.Lib.ValueIdxCoords
public import Idealize.ShloMosaic.Lib.Pipeline.Value

@[expose] public section

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Idealize.ShloMosaic.ValueIdx

variable {F : FTy → Type} [FloatOps F]

local notation "𝕄" => MT nD τ sig Unit (Elt F) ℕ (UR sig nD τ) ℕ

/-- The scratch after the fill: row `r` holds the input block's lane `r` for `r < 16384`, zero below. -/
def filled (x : Vec F S1x128x16384 .f32) : Vec F S16392x128 .f32 := fun y =>
  if h : (y 0).val < 16384 then x (ix3 (n0 := 1) (n1 := 128) (n2 := 16384) 0 (y 1) ⟨(y 0).val, h⟩)
  else Scalar.ofBits .f32 0x00000000#32

/-- The scratch rows below `n` hold what the fill leaves. -/
def Upto (x : Vec F S1x128x16384 .f32) (n : ℕ) (X : Vec F S16392x128 .f32) : Prop :=
  ∀ y : S16392x128.Idx, (y 0).val < n → X y = filled x y

/-- The tile stored is the tile read, transposed. -/
theorem flipped_apply (x : Vec F S1x128x128 .f32) (a b : Fin 128) :
    flipped x (ix2 a b) = x (ix3 0 b a) := by
  rw [flipped, shapeCast_self,
    transpose_apply (s := S128x128) (t := S128x128) [1, 0] _ transposes_S128x128_p1_0_S128x128 (ix2 a b) (ix2 b a)
      (fun i => by match i with | ⟨0, _⟩ => rfl | ⟨1, _⟩ => rfl)]
  rw [show (shapeCast S128x128 x shapeCasts_S1x128x128_S128x128) (ix2 b a) = _ from
    shapeCast_dropUnit_apply ![128, 128] x shapeCasts_S1x128x128_S128x128 (ix2 b a)]
  refine congrArg x (funext fun i => ?_)
  match i with
  | ⟨0, _⟩ => rfl
  | ⟨1, _⟩ => rfl
  | ⟨2, _⟩ => rfl

/-- The rectangle of tile `t` in the scratch. -/
abbrev tileRect (t : Fin 128) : Rect S16392x128 :=
  Rect.unit (s := S16392x128) ![128 * t.val, 0] S128x128.size (tile_dst t)

/-- The value tile `t` stores, from the input block. -/
def tileVal (x : Vec F S1x128x16384 .f32) (t : Fin 128) : Vec F S128x128 .f32 :=
  flipped (fun z => x ((Rect.unit (s := S1x128x16384) ![0, 0, 128 * t.val] S1x128x128.size (tile_src t)).toLoadRect.idx z))

/-- Tile `t` extends the rows filled by 128. -/
theorem Upto.tile {x : Vec F S1x128x16384 .f32} {X : Vec F S16392x128 .f32} (t : Fin 128) (h : Upto x (128 * t.val) X) :
    Upto x (128 * (t.val + 1)) (put (tileRect t) (tileVal x t) X) := by
  intro y hy
  by_cases hlt : (y 0).val < 128 * t.val
  · rw [put_miss _ _ _ _ (fun z hz => ?_)]
    · exact h y hlt
    · have e := congrArg (fun i : S16392x128.Idx => (i 0).val) hz
      have e' : 128 * t.val + 1 * (z 0).val = (y 0).val := e
      omega
  · have ht := t.isLt
    have hb : (y 0).val - 128 * t.val < 128 := by omega
    have hy1 : (y 1).val < 128 := (y 1).isLt
    have e : (tileRect t).emb (ix2 ⟨(y 0).val - 128 * t.val, hb⟩ ⟨(y 1).val, hy1⟩ : S128x128.Idx) = y := by
      funext a
      match a with
      | ⟨0, _⟩ => exact Fin.ext (show 128 * t.val + 1 * ((y 0).val - 128 * t.val) = (y 0).val by omega)
      | ⟨1, _⟩ => exact Fin.ext (show 0 + 1 * (y 1).val = (y 1).val by omega)
    rw [← e, put_emb, e, tileVal, flipped_apply, filled, dif_pos (by omega)]
    refine congrArg x (funext fun a => Fin.ext ?_)
    match a with
    | ⟨0, _⟩ => rfl
    | ⟨1, _⟩ => exact (show 0 + 1 * (y 1).val = (y 1).val by omega)
    | ⟨2, _⟩ => exact (show 128 * t.val + 1 * ((y 0).val - 128 * t.val) = (y 0).val by omega)

/-- The rows of zeros complete the fill. -/
theorem Upto.last {x : Vec F S1x128x16384 .f32} {X : Vec F S16392x128 .f32} (h : Upto x 16384 X) :
    put (Rect.unit (s := S16392x128) ![16384, 0] S8x128.size inb_S16392x128_S8x128_16384_0) (k0_pay134 (F := F)) X
      = filled x := by
  funext y
  by_cases hlt : (y 0).val < 16384
  · rw [put_miss _ _ _ _ (fun z hz => ?_)]
    · exact h y hlt
    · have e := congrArg (fun i : S16392x128.Idx => (i 0).val) hz
      have e' : 16384 + 1 * (z 0).val = (y 0).val := e
      omega
  · have hy0 : (y 0).val < 16392 := (y 0).isLt
    have hb : (y 0).val - 16384 < 8 := by omega
    have hy1 : (y 1).val < 128 := (y 1).isLt
    have e : (Rect.unit (s := S16392x128) ![16384, 0] S8x128.size inb_S16392x128_S8x128_16384_0).emb
        (ix2 ⟨(y 0).val - 16384, hb⟩ ⟨(y 1).val, hy1⟩ : S8x128.Idx) = y := by
      have e0 : 16384 + 1 * ((y 0).val - 16384) = (y 0).val := by omega
      have e1 : 0 + 1 * (y 1).val = (y 1).val := by omega
      exact Shape.idx_ext₂ e0 e1
    rw [← e, put_emb, e, filled, dif_neg hlt]
    rfl

/-! ## Triples -/

section Triples

variable (c : Dev nD) (E : Set ℕ) (arg4 : Memref sig .tc .vmem S1x128x16384 .f32) (arg6 : Memref sig .tc .vmem S16392x128 .f32)
  (x : Vec F S1x128x16384 .f32)

/-- One tile, and the rows filled grow by 128. -/
theorem tile_owned (t : Fin 128) (X : Vec F S16392x128 .f32) (Q : PUnit → sProp 𝕄) :
    iprop(owns (c : Thread nD τ) arg4 fullShare x ∗ owns (c : Thread nD τ) arg6 fullShare X
        ∗ (owns (c : Thread nD τ) arg4 fullShare x -∗
            owns (c : Thread nD τ) arg6 fullShare (put (tileRect t) (tileVal x t) X) -∗ Q ⟨⟩))
      ⊢ wp frame (wpE (defs₀ (F := F)) Variants.none c none) E (tile arg4 arg6 t) Q := by
  unfold tile
  simp only [wp_bind]
  iintro ⟨H4, H6, HQ⟩
  iapply load_owned c E
  isplitl [H4]
  · iexact H4
  iintro H4
  iapply load_owned c E
  isplitl [H6]
  · iexact H6
  iintro H6
  iapply store_owned c E
  isplitl [H6]
  · iexact H6
  iintro H6
  iapply HQ $$ H4
  iexact H6

/-- One tile of a fill in progress. -/
theorem tile_upto (t : Fin 128) (Q : PUnit → sProp 𝕄) :
    iprop(owns (c : Thread nD τ) arg4 fullShare x ∗ (∃ X, ⌜Upto x (128 * t.val) X⌝ ∗ owns (c : Thread nD τ) arg6 fullShare X)
        ∗ (owns (c : Thread nD τ) arg4 fullShare x -∗
            (∃ X, ⌜Upto x (128 * (t.val + 1)) X⌝ ∗ owns (c : Thread nD τ) arg6 fullShare X) -∗ Q ⟨⟩))
      ⊢ wp frame (wpE (defs₀ (F := F)) Variants.none c none) E (tile arg4 arg6 t) Q := by
  iintro ⟨H4, ⟨%X, %hX, H6⟩, HQ⟩
  iapply tile_owned c E arg4 arg6 x t X
  isplitl [H4]
  · iexact H4
  isplitl [H6]
  · iexact H6
  iintro H4 H6
  iapply HQ $$ H4
  iexists _
  isplitr
  rotate_left
  · iexact H6
  ipureintro
  exact hX.tile t

/-- Five tiles of a fill in progress. -/
theorem five_upto (o : ℕ) (h : o + 5 ≤ 128) (Q : PUnit → sProp 𝕄) :
    iprop(owns (c : Thread nD τ) arg4 fullShare x ∗ (∃ X, ⌜Upto x (128 * o) X⌝ ∗ owns (c : Thread nD τ) arg6 fullShare X)
        ∗ (owns (c : Thread nD τ) arg4 fullShare x -∗
            (∃ X, ⌜Upto x (128 * (o + 5)) X⌝ ∗ owns (c : Thread nD τ) arg6 fullShare X) -∗ Q ⟨⟩))
      ⊢ wp frame (wpE (defs₀ (F := F)) Variants.none c none) E (five arg4 arg6 o h) Q := by
  unfold five
  simp only [wp_bind]
  iintro ⟨H4, H6, HQ⟩
  iapply tile_upto c E arg4 arg6 x ⟨o, _⟩
  isplitl [H4]
  · iexact H4
  isplitl [H6]
  · iexact H6
  iintro H4 H6
  iapply tile_upto c E arg4 arg6 x ⟨o + 1, _⟩
  isplitl [H4]
  · iexact H4
  isplitl [H6]
  · iexact H6
  iintro H4 H6
  iapply tile_upto c E arg4 arg6 x ⟨o + 2, _⟩
  isplitl [H4]
  · iexact H4
  isplitl [H6]
  · iexact H6
  iintro H4 H6
  iapply tile_upto c E arg4 arg6 x ⟨o + 3, _⟩
  isplitl [H4]
  · iexact H4
  isplitl [H6]
  · iexact H6
  iintro H4 H6
  iapply tile_upto c E arg4 arg6 x ⟨o + 4, _⟩
  isplitl [H4]
  · iexact H4
  isplitl [H6]
  · iexact H6
  iintro H4 H6
  iapply HQ $$ H4 H6

/-- A run of fives of a fill in progress, by induction on their number. -/
theorem fives_upto {α : Type} (k : Prog (TpuEff nD τ sig (Elt F) Λ₀ .tc) α) (Q : α → sProp 𝕄) :
    ∀ (n o : ℕ) (h : o + 5 * n ≤ 128),
    iprop(owns (c : Thread nD τ) arg4 fullShare x ∗ (∃ X, ⌜Upto x (128 * o) X⌝ ∗ owns (c : Thread nD τ) arg6 fullShare X)
        ∗ (owns (c : Thread nD τ) arg4 fullShare x -∗
            (∃ X, ⌜Upto x (128 * (o + 5 * n)) X⌝ ∗ owns (c : Thread nD τ) arg6 fullShare X) -∗
            wp frame (wpE (defs₀ (F := F)) Variants.none c none) E k Q))
      ⊢ wp frame (wpE (defs₀ (F := F)) Variants.none c none) E (fives arg4 arg6 k n o h) Q
  | 0, o, h => by
    rw [fives]
    iintro ⟨H4, H6, HQ⟩
    iapply HQ $$ H4 H6
  | n + 1, o, h => by
    rw [fives]
    simp only [wp_bind]
    iintro ⟨H4, H6, HQ⟩
    iapply five_upto c E arg4 arg6 x o
    isplitl [H4]
    · iexact H4
    isplitl [H6]
    · iexact H6
    iintro H4 H6
    iapply fives_upto k Q n (o + 5)
    isplitl [H4]
    · iexact H4
    isplitl [H6]
    · iexact H6
    rw [show o + 5 + 5 * n = o + 5 * (n + 1) by omega]
    iexact HQ

/-- The fill: from any scratch contents to `filled` of the input block. -/
theorem fill_owned {α : Type} (k : Prog (TpuEff nD τ sig (Elt F) Λ₀ .tc) α) (Q : α → sProp 𝕄) :
    iprop(owns (c : Thread nD τ) arg4 fullShare x ∗ (∃ X, owns (c : Thread nD τ) arg6 fullShare X)
        ∗ (owns (c : Thread nD τ) arg4 fullShare x -∗ owns (c : Thread nD τ) arg6 fullShare (filled x) -∗
            wp frame (wpE (defs₀ (F := F)) Variants.none c none) E k Q))
      ⊢ wp frame (wpE (defs₀ (F := F)) Variants.none c none) E (fill arg4 arg6 k) Q := by
  unfold fill
  iintro ⟨H4, ⟨%X, H6⟩, HQ⟩
  iapply fives_upto c E arg4 arg6 x
  isplitl [H4]
  · iexact H4
  isplitl [H6]
  · iexists X
    isplitr
    · ipureintro
      intro y hy
      exact absurd hy (Nat.not_lt_zero _)
    iexact H6
  iintro H4 H6
  simp only [wp_bind]
  iapply tile_upto c E arg4 arg6 x 125
  isplitl [H4]
  · iexact H4
  isplitl [H6]
  · iexact H6
  iintro H4 H6
  iapply tile_upto c E arg4 arg6 x 126
  isplitl [H4]
  · iexact H4
  isplitl [H6]
  · iexact H6
  iintro H4 H6
  iapply tile_upto c E arg4 arg6 x 127
  isplitl [H4]
  · iexact H4
  isplitl [H6]
  · iexact H6
  iintro H4 ⟨%Y, %hY, H6⟩
  iapply load_owned c E
  isplitl [H6]
  · iexact H6
  iintro H6
  iapply store_owned c E
  isplitl [H6]
  · iexact H6
  rw [Upto.last hY]
  iintro H6
  iapply HQ $$ H4 H6

end Triples

end Cert.KernelIdeal.Pool

end
-- ==== Proof.BodyEq.lean ====
/-
  The printed kernel body of `KernelIdeal` is the structured program `body` of Body.lean: the start by unfolding, the
  whole by unfolding around the start.
-/
module

public import proofs.«01_k».proof.Proof.Body

@[expose] public section

noncomputable section

namespace Cert.KernelIdeal.Pool

open Idealize.ShloMosaic Idealize.SL.Sem Cert.KernelIdeal Cert.KernelIdeal.Gen

variable {F : FTy → Type} [FloatOps F]
  (i : grid0.Coords) (arg2 : Memref sig .tc .vmem S1x128 .f32) (harg2 : arg2.IsWhole) (arg3 : Memref sig .tc .vmem S1x128 .f32) (harg3 : arg3.IsWhole) (arg4 : Memref sig .tc .vmem S1x128x16384 .f32) (harg4 : arg4.IsWhole) (arg5 : Memref sig .tc .vmem S1x128x256 .f32) (harg5 : arg5.IsWhole) (arg6 : Memref sig .tc .vmem S16392x128 .f32) (harg6 : arg6.IsWhole)

set_option maxRecDepth 65536 in
/-- The first sixty printed statements are the start of the structured body. -/
theorem start_eq :
    k0_part27 (F := F) i arg2 harg2 arg3 harg3 arg4 harg4 arg5 harg5 arg6 harg6 = start i arg2 arg3 arg4 arg6 := rfl

omit i arg2 harg2 arg3 harg3 arg4 harg4 arg5 harg5 arg6 harg6 in
/-- Two continuations after a program are one. -/
theorem bind_two.{v} {E : Type → Type v} {α β γ : Type} {p : Prog E α} {q : Prog E β} {f : α → Prog E β} {g : β → Prog E γ}
    {h : α → Prog E γ} (d : q = p >>= f) (e : ∀ a, f a >>= g = h a) : q >>= g = p >>= h := by
  rw [d, bind_assoc]; exact congrArg _ (funext e)

set_option maxRecDepth 65536 in
set_option maxHeartbeats 4000000 in
/-- The printed body is its first sixty statements followed by the rest of the structured body. -/
theorem body_split :
    cc0__pool_kernel (F := F) i arg2 harg2 arg3 harg3 arg4 harg4 arg5 harg5 arg6 harg6
      = k0_part27 (F := F) i arg2 harg2 arg3 harg3 arg4 harg4 arg5 harg5 arg6 harg6 >>= rest i arg5 arg6 := by
  unfold cc0__pool_kernel
  refine bind_two (p := k0_part27 i arg2 harg2 arg3 harg3 arg4 harg4 arg5 harg5 arg6 harg6) (f := ?f) ?_ ?_
  rotate_left
  · unfold k0_part127; exact rfl
  · intro ⟨_, _, _, _, _, _, _, _⟩
    exact rfl

/-- The printed body is the structured body. -/
theorem body_eq :
    cc0__pool_kernel (F := F) i arg2 harg2 arg3 harg3 arg4 harg4 arg5 harg5 arg6 harg6
      = body i arg2 arg3 arg4 arg5 arg6 := by
  rw [body_split, start_eq]; rfl

end Cert.KernelIdeal.Pool

end
-- ==== Proof.Triple.lean ====
/-
  The triple of the whole body: from the two operand rows, the input block and the scratch (filled unless the inner
  coordinate is 0) to the output block `result` and the scratch filled.
-/
module

public import proofs.«01_k».proof.Proof.Fill
public import proofs.«01_k».proof.Proof.BodyEq

@[expose] public section

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Idealize.ShloMosaic.ValueIdx

variable {F : FTy → Type} [FloatOps F]

local notation "𝕄" => MT nD τ sig Unit (Elt F) ℕ (UR sig nD τ) ℕ

/-- The condition of the fill: the inner grid coordinate is 0. -/
abbrev fills (i : grid0.Coords) : Prop :=
  (Scalar.cmpi .ne (Scalar.extui (Scalar.cmpi .eq (BitVec.ofNat 32 (i 1).val) 0#32)) 0#32) = 1#1

/-- A strided slice of scratch contents. -/
def sliceRaw (i : grid0.Coords) (X : Vec F S16392x128 .f32) (j k : Fin 8) : Vec F S32x128 .f32 :=
  fun z => X ((slice i j k).idx z)

/-- A strided slice of scratch contents, scaled. -/
def sliceOf (i : grid0.Coords) (X : Vec F S16392x128 .f32) (ha : FVec F S1x128 .f32) (j k : Fin 8) : FVec F S32x128 .f32 :=
  scaled ha (sliceRaw i X j k)

/-- The result of chunk `j` from scratch contents. -/
def chunkOf (i : grid0.Coords) (X : Vec F S16392x128 .f32) (ha t8 inv : FVec F S1x128 .f32) (j : Fin 8) : FVec F S32x128 .f32 :=
  solve t8 inv (sliceOf i X ha j 0) (sliceOf i X ha j 1) (sliceOf i X ha j 2) (sliceOf i X ha j 3)
    (sliceOf i X ha j 4) (sliceOf i X ha j 5) (sliceOf i X ha j 6) (sliceOf i X ha j 7)

/-- Two 128 x 128 halves side by side. -/
def halves (l h : Vec F S1x128x128 .f32) : Vec F S1x128x256 .f32 := fun y =>
  if hy : (y 2).val < 128 then l (ix3 (n0 := 1) (n1 := 128) (n2 := 128) 0 (y 1) ⟨(y 2).val, hy⟩)
  else h (ix3 (n0 := 1) (n1 := 128) (n2 := 128) 0 (y 1) ⟨(y 2).val - 128, by have : (y 2).val < 256 := (y 2).isLt; omega⟩)

/-- The output block from the scratch contents and the two operand rows. -/
def result (i : grid0.Coords) (X : Vec F S16392x128 .f32) (ha t8 inv : FVec F S1x128 .f32) : Vec F S1x128x256 .f32 :=
  halves
    (stacked (chunkOf i X ha t8 inv 0) (chunkOf i X ha t8 inv 1) (chunkOf i X ha t8 inv 2) (chunkOf i X ha t8 inv 3))
    (stacked (chunkOf i X ha t8 inv 4) (chunkOf i X ha t8 inv 5) (chunkOf i X ha t8 inv 6) (chunkOf i X ha t8 inv 7))

/-- The two stores write the whole block. -/
theorem put_halves (l h : Vec F S1x128x128 .f32) (d : Vec F S1x128x256 .f32) :
    put (Rect.unit (s := S1x128x256) ![0, 0, 128] S1x128x128.size inb_S1x128x256_S1x128x128_0_0_128) h
      (put (Rect.unit (s := S1x128x256) ![0, 0, 0] S1x128x128.size inb_S1x128x256_S1x128x128_0_0_0) l d) = halves l h := by
  funext y
  have hy0 : (y 0).val < 1 := (y 0).isLt
  have hy1 : (y 1).val < 128 := (y 1).isLt
  have hy2 : (y 2).val < 256 := (y 2).isLt
  by_cases hlt : (y 2).val < 128
  · rw [put_miss _ _ _ _ (fun z hz => ?_)]
    · have e : (Rect.unit (s := S1x128x256) ![0, 0, 0] S1x128x128.size inb_S1x128x256_S1x128x128_0_0_0).emb
          (ix3 0 ⟨(y 1).val, hy1⟩ ⟨(y 2).val, hlt⟩ : S1x128x128.Idx) = y := by
        funext a
        match a with
        | ⟨0, _⟩ => exact Fin.ext (show 0 + 1 * 0 = (y 0).val by omega)
        | ⟨1, _⟩ => exact Fin.ext (show 0 + 1 * (y 1).val = (y 1).val by omega)
        | ⟨2, _⟩ => exact Fin.ext (show 0 + 1 * (y 2).val = (y 2).val by omega)
      rw [← e, put_emb, e, halves, dif_pos hlt]
      rfl
    · have e := congrArg (fun i : S1x128x256.Idx => (i 2).val) hz
      have e' : 128 + 1 * (z 2).val = (y 2).val := e
      omega
  · have hb : (y 2).val - 128 < 128 := by omega
    have e : (Rect.unit (s := S1x128x256) ![0, 0, 128] S1x128x128.size inb_S1x128x256_S1x128x128_0_0_128).emb
        (ix3 0 ⟨(y 1).val, hy1⟩ ⟨(y 2).val - 128, hb⟩ : S1x128x128.Idx) = y := by
      funext a
      match a with
      | ⟨0, _⟩ => exact Fin.ext (show 0 + 1 * 0 = (y 0).val by omega)
      | ⟨1, _⟩ => exact Fin.ext (show 0 + 1 * (y 1).val = (y 1).val by omega)
      | ⟨2, _⟩ => exact Fin.ext (show 128 + 1 * ((y 2).val - 128) = (y 2).val by omega)
    rw [← e, put_emb, e, halves, dif_neg hlt]
    rfl

/-- The rectangle of a whole operand row is the row. -/
theorem row_idx (z : S1x128.Idx) :
    (Rect.unit (s := S1x128) ![0, 0] S1x128.size inb_S1x128_S1x128_0_0).toLoadRect.idx z = z := by
  have e0 : 0 + 1 * (z 0).val = (z 0).val := by omega
  have e1 : 0 + 1 * (z 1).val = (z 1).val := by omega
  exact Shape.idx_ext₂ e0 e1

section Triples

variable (c : Dev nD) (E : Set ℕ) (i : grid0.Coords) (arg2 arg3 : Memref sig .tc .vmem S1x128 .f32)
  (arg4 : Memref sig .tc .vmem S1x128x16384 .f32) (arg5 : Memref sig .tc .vmem S1x128x256 .f32)
  (arg6 : Memref sig .tc .vmem S16392x128 .f32)

/-- A load of a whole operand row. -/
theorem row_owned {m : Memref sig .tc .vmem S1x128 .f32} {hl} {a : Vec F S1x128 .f32} {Q : Vec F S1x128 .f32 → sProp 𝕄} :
    iprop(owns (c : Thread nD τ) m fullShare a ∗ (owns (c : Thread nD τ) m fullShare a -∗ Q a))
      ⊢ wp frame (wpE (defs₀ (F := F)) Variants.none c none) E
          (Prog.lift (.load m (Rect.unit (s := S1x128) ![0, 0] S1x128.size inb_S1x128_S1x128_0_0).toLoadRect hl)) Q := by
  have e : (fun z => a ((Rect.unit (s := S1x128) ![0, 0] S1x128.size inb_S1x128_S1x128_0_0).toLoadRect.idx z)) = a :=
    funext fun z => congrArg a (row_idx z)
  have h := load_owned (F := F) c E (m := m) (r := (Rect.unit (s := S1x128) ![0, 0] S1x128.size inb_S1x128_S1x128_0_0).toLoadRect)
    (hl := hl) (q := fullShare) (X := a) (Q := Q)
  rw [e] at h
  exact h

/-- A strided read of the scratch. -/
theorem slice_owned {j k : Fin 8} {hl} {X : Vec F S16392x128 .f32} {Q : Vec F S32x128 .f32 → sProp 𝕄} :
    iprop(owns (c : Thread nD τ) arg6 fullShare X ∗ (owns (c : Thread nD τ) arg6 fullShare X -∗ Q (sliceRaw i X j k)))
      ⊢ wp frame (wpE (defs₀ (F := F)) Variants.none c none) E (Prog.lift (.load arg6 (slice i j k) hl)) Q :=
  load_owned (F := F) c E (m := arg6) (r := slice i j k) (hl := hl) (q := fullShare) (X := X) (Q := Q)

/-- The two first reads of chunk 0. -/
theorem firstReads_owned (X : Vec F S16392x128 .f32) (ha t8 inv : FVec F S1x128 .f32) (Q : Head F → sProp 𝕄) :
    iprop(owns (c : Thread nD τ) arg6 fullShare X ∗ (owns (c : Thread nD τ) arg6 fullShare X -∗
        Q ⟨BitVec.ofNat 32 (i 1).val, ha, t8, inv, Scalar.addi (Scalar.muli (BitVec.ofNat 32 (i 1).val) 1024#32) 0#32,
          sliceOf i X ha 0 0, sliceOf i X ha 0 1, 2#32⟩))
      ⊢ wp frame (wpE (defs₀ (F := F)) Variants.none c none) E (firstReads i arg6 ha t8 inv) Q := by
  unfold firstReads sliceOf
  simp only [wp_bind]
  iintro ⟨H6, HQ⟩
  iapply slice_owned c E i arg6
  isplitl [H6]
  · iexact H6
  iintro H6
  iapply slice_owned c E i arg6
  isplitl [H6]
  · iexact H6
  iintro H6
  rw [wp_pure]
  imodintro
  iapply HQ $$ H6

/-- The end of a chunk. -/
theorem chunkEnd_owned (X : Vec F S16392x128 .f32) (ha t8 inv : FVec F S1x128 .f32) (j : Fin 8) (v0 v1 : FVec F S32x128 .f32)
    (Q : FVec F S32x128 .f32 → sProp 𝕄) :
    iprop(owns (c : Thread nD τ) arg6 fullShare X ∗ (owns (c : Thread nD τ) arg6 fullShare X -∗
        Q (solve t8 inv v0 v1 (sliceOf i X ha j 2) (sliceOf i X ha j 3)
          (sliceOf i X ha j 4) (sliceOf i X ha j 5) (sliceOf i X ha j 6) (sliceOf i X ha j 7))))
      ⊢ wp frame (wpE (defs₀ (F := F)) Variants.none c none) E (chunkEnd i arg6 ha t8 inv j v0 v1) Q := by
  unfold chunkEnd sliceOf
  simp only [wp_bind]
  iintro ⟨H6, HQ⟩
  iapply slice_owned c E i arg6
  isplitl [H6]
  · iexact H6
  iintro H6
  iapply slice_owned c E i arg6
  isplitl [H6]
  · iexact H6
  iintro H6
  iapply slice_owned c E i arg6
  isplitl [H6]
  · iexact H6
  iintro H6
  iapply slice_owned c E i arg6
  isplitl [H6]
  · iexact H6
  iintro H6
  iapply slice_owned c E i arg6
  isplitl [H6]
  · iexact H6
  iintro H6
  iapply slice_owned c E i arg6
  isplitl [H6]
  · iexact H6
  iintro H6
  rw [wp_pure]
  imodintro
  iapply HQ $$ H6

/-- A chunk. -/
theorem chunk_owned (X : Vec F S16392x128 .f32) (ha t8 inv : FVec F S1x128 .f32) (j : Fin 8) (Q : FVec F S32x128 .f32 → sProp 𝕄) :
    iprop(owns (c : Thread nD τ) arg6 fullShare X ∗ (owns (c : Thread nD τ) arg6 fullShare X -∗ Q (chunkOf i X ha t8 inv j)))
      ⊢ wp frame (wpE (defs₀ (F := F)) Variants.none c none) E (chunk i arg6 ha t8 inv j) Q := by
  unfold chunk chunkOf
  rw [show sliceOf i X ha j 0 = scaled ha (sliceRaw i X j 0) from rfl,
    show sliceOf i X ha j 1 = scaled ha (sliceRaw i X j 1) from rfl]
  simp only [wp_bind]
  iintro ⟨H6, HQ⟩
  iapply slice_owned c E i arg6
  isplitl [H6]
  · iexact H6
  iintro H6
  iapply slice_owned c E i arg6
  isplitl [H6]
  · iexact H6
  iintro H6
  iapply chunkEnd_owned c E i arg6 X
  isplitl [H6]
  · iexact H6
  iintro H6
  iapply HQ $$ H6

/-- The start of the body: the scratch is filled where it was not, the head's values are those of the filled scratch. -/
theorem start_owned (q a : Vec F S1x128 .f32) (x : Vec F S1x128x16384 .f32) (Q : Head F → sProp 𝕄) :
    iprop(owns (c : Thread nD τ) arg2 fullShare q ∗ owns (c : Thread nD τ) arg3 fullShare a ∗ owns (c : Thread nD τ) arg4 fullShare x
        ∗ (∃ X, ⌜¬ fills i → X = filled x⌝ ∗ owns (c : Thread nD τ) arg6 fullShare X)
        ∗ (owns (c : Thread nD τ) arg2 fullShare q -∗ owns (c : Thread nD τ) arg3 fullShare a -∗
            owns (c : Thread nD τ) arg4 fullShare x -∗ owns (c : Thread nD τ) arg6 fullShare (filled x) -∗
            Q ⟨BitVec.ofNat 32 (i 1).val, halfAlpha a, threshold q, twoInvAlpha a,
              Scalar.addi (Scalar.muli (BitVec.ofNat 32 (i 1).val) 1024#32) 0#32,
              sliceOf i (filled x) (halfAlpha a) 0 0, sliceOf i (filled x) (halfAlpha a) 0 1, 2#32⟩))
      ⊢ wp frame (wpE (defs₀ (F := F)) Variants.none c none) E (start i arg2 arg3 arg4 arg6) Q := by
  unfold start
  simp only [wp_bind]
  iintro ⟨H2, H3, H4, ⟨%X, %hX, H6⟩, HQ⟩
  iapply row_owned c E
  isplitl [H3]
  · iexact H3
  iintro H3
  iapply row_owned c E
  isplitl [H2]
  · iexact H2
  iintro H2
  iapply row_owned c E
  isplitl [H3]
  · iexact H3
  iintro H3
  by_cases hc : fills i
  · rw [dif_pos hc]
    iapply fill_owned c E arg4 arg6 x
    isplitl [H4]
    · iexact H4
    isplitl [H6]
    · iexists X
      iexact H6
    iintro H4 H6
    iapply firstReads_owned c E i arg6 (filled x)
    isplitl [H6]
    · iexact H6
    iintro H6
    iapply HQ $$ H2 H3 H4 H6
  · rw [dif_neg hc]
    obtain rfl := hX hc
    iapply firstReads_owned c E i arg6 (filled x)
    isplitl [H6]
    · iexact H6
    iintro H6
    iapply HQ $$ H2 H3 H4 H6

/-- The rest of the body: the output block from the filled scratch. -/
theorem rest_owned (X : Vec F S16392x128 .f32) (ha t8 inv : FVec F S1x128 .f32) (b0 b1 b2 : BitVec 32) (Q : PUnit → sProp 𝕄) :
    iprop(owns (c : Thread nD τ) arg6 fullShare X ∗ (∃ d, owns (c : Thread nD τ) arg5 fullShare d)
        ∗ (owns (c : Thread nD τ) arg6 fullShare X -∗ owns (c : Thread nD τ) arg5 fullShare (result i X ha t8 inv) -∗ Q ⟨⟩))
      ⊢ wp frame (wpE (defs₀ (F := F)) Variants.none c none) E
          (rest i arg5 arg6 ⟨b0, ha, t8, inv, b1, sliceOf i X ha 0 0, sliceOf i X ha 0 1, b2⟩) Q := by
  unfold rest
  simp only [wp_bind]
  iintro ⟨H6, ⟨%d, H5⟩, HQ⟩
  iapply chunkEnd_owned c E i arg6 X
  isplitl [H6]
  · iexact H6
  iintro H6
  iapply chunk_owned c E i arg6 X
  isplitl [H6]
  · iexact H6
  iintro H6
  iapply chunk_owned c E i arg6 X
  isplitl [H6]
  · iexact H6
  iintro H6
  iapply chunk_owned c E i arg6 X
  isplitl [H6]
  · iexact H6
  iintro H6
  iapply chunk_owned c E i arg6 X
  isplitl [H6]
  · iexact H6
  iintro H6
  iapply chunk_owned c E i arg6 X
  isplitl [H6]
  · iexact H6
  iintro H6
  iapply chunk_owned c E i arg6 X
  isplitl [H6]
  · iexact H6
  iintro H6
  iapply chunk_owned c E i arg6 X
  isplitl [H6]
  · iexact H6
  iintro H6
  iapply load_owned c E
  isplitl [H5]
  · iexact H5
  iintro H5
  iapply store_owned c E
  isplitl [H5]
  · iexact H5
  iintro H5
  iapply load_owned c E
  isplitl [H5]
  · iexact H5
  iintro H5
  iapply store_owned c E
  isplitl [H5]
  · iexact H5
  rw [put_halves]
  iintro H5
  iapply HQ $$ H6
  iexact H5

/-- The body: the output block is `result` of the filled scratch. -/
theorem body_owned (harg2 : arg2.IsWhole) (harg3 : arg3.IsWhole) (harg4 : arg4.IsWhole) (harg5 : arg5.IsWhole) (harg6 : arg6.IsWhole)
    (q a : Vec F S1x128 .f32) (x : Vec F S1x128x16384 .f32) (Q : PUnit → sProp 𝕄) :
    iprop(owns (c : Thread nD τ) arg2 fullShare q ∗ owns (c : Thread nD τ) arg3 fullShare a ∗ owns (c : Thread nD τ) arg4 fullShare x
        ∗ (∃ d, owns (c : Thread nD τ) arg5 fullShare d)
        ∗ (∃ X, ⌜¬ fills i → X = filled x⌝ ∗ owns (c : Thread nD τ) arg6 fullShare X)
        ∗ (owns (c : Thread nD τ) arg2 fullShare q -∗ owns (c : Thread nD τ) arg3 fullShare a -∗
            owns (c : Thread nD τ) arg4 fullShare x -∗
            owns (c : Thread nD τ) arg5 fullShare (result i (filled x) (halfAlpha a) (threshold q) (twoInvAlpha a)) -∗
            owns (c : Thread nD τ) arg6 fullShare (filled x) -∗ Q ⟨⟩))
      ⊢ wp frame (wpE (defs₀ (F := F)) Variants.none c none) E
          (cc0__pool_kernel i arg2 harg2 arg3 harg3 arg4 harg4 arg5 harg5 arg6 harg6) Q := by
  rw [body_eq, body, wp_bind]
  iintro ⟨H2, H3, H4, H5, H6, HQ⟩
  iapply start_owned c E i arg2 arg3 arg4 arg6 q a x
  isplitl [H2]
  · iexact H2
  isplitl [H3]
  · iexact H3
  isplitl [H4]
  · iexact H4
  isplitl [H6]
  · iexact H6
  iintro H2 H3 H4 H6
  iapply rest_owned c E i arg5 arg6 (filled x)
  isplitl [H6]
  · iexact H6
  isplitl [H5]
  · iexact H5
  iintro H6 H5
  iapply HQ $$ H2 H3 H4 H5 H6

end Triples

end Cert.KernelIdeal.Pool

end
-- ==== Proof.Launch.lean ====
/-
  The launch of the idealized kernel: what every window holds at every grid point, the scratch tracked from one point to
  the next, and from these the frame and the final contents of the arrays.
-/
module

public import proofs.«01_k».proof.Proof.Triple
public import proofs.«01_k».proof.Proof.Gen.KernelIdeal.Frame
public import Idealize.ShloMosaic.Lib.Pipeline.FrameBody
public import Idealize.ShloMosaic.Lib.WordCmp
public import Idealize.ShloMosaic.Lib.Claim

@[expose] public section

set_option maxRecDepth 16384

noncomputable section

namespace Cert.KernelIdeal.Pool

open Idealize.ShloMosaic Idealize.ShloMosaic.TcCoe Idealize.ShloMosaic.Tactic
open Idealize.ShloMosaic.Rounds
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Idealize.ShloMosaic.ValueIdx

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- A grid point is below 256. -/
theorem point_lt (t : Fin cfg0.N) : t.val < 256 := Nat.lt_of_lt_of_eq t.isLt N_0

/-- The outer coordinate of a point. -/
theorem outer_val (t : Fin cfg0.N) : (grid0.coords t 0).val = t.val / 16 := by
  have ht := point_lt t
  have e : (grid0.coords t 0).val = t.val / 16 % 16 := Pipeline.Grid.coords_val t 0 (by decide) rfl
  omega

/-- The inner coordinate of a point. -/
theorem inner_val (t : Fin cfg0.N) : (grid0.coords t 1).val = t.val % 16 := by
  have e : (grid0.coords t 1).val = t.val / 1 % 16 := Pipeline.Grid.coords_val t 1 (by decide) rfl
  omega

/-- The scratch is filled at the points whose number is a multiple of 16. -/
theorem fills_iff (t : Fin cfg0.N) : fills (grid0.coords t) ↔ t.val % 16 = 0 := by
  have ht := point_lt t
  have e0 := outer_val t
  have e1 := inner_val t
  simp only [fills, e1]
  word_cmp

/-- The row of the third operand that a point reads: the outer coordinate. -/
theorem index2_zero (t : Fin cfg0.N) : win0_2.index t 0 = t.val / 16 := by
  have ht := point_lt t
  show (BitVec.ofNat 32 (grid0.coords t 0).val).toNat = _
  rw [outer_val, BitVec.toNat_ofNat]
  omega

/-- The block of the third operand at a point, as a vector. -/
abbrev inputBlock (c : Dev nD) (t : Fin cfg0.N) : Vec F S1x128x16384 .f32 := iblk m c 2 t

/-- The block of the third operand at a point is one row of the first argument. -/
theorem inputBlock_apply (c : Dev nD) (t : Fin cfg0.N) (h : t.val / 16 < 16) (z : S1x128x16384.Idx) :
    inputBlock m c t z = m ((c : Thread nD τ).loc main_arg0) (ix3 (⟨t.val / 16, h⟩ : Fin 16) (z 1) (z 2)) := by
  have hi := index2_zero t
  unfold inputBlock iblk
  rw [View.read_apply]
  show V m c main_arg0 _ = _
  rw [V_main_arg0]
  congr 1
  funext a
  apply Fin.ext
  match a with
  | ⟨0, _⟩ =>
    show win0_2.index t 0 * 1 + 1 * (z 0).val = t.val / 16
    have hz : (z 0).val < 1 := (z 0).isLt
    rw [hi]; omega
  | ⟨1, _⟩ => show 0 * 128 + 1 * (z 1).val = (z 1).val; omega
  | ⟨2, _⟩ => show 0 * 16384 + 1 * (z 2).val = (z 2).val; omega

/-- Two points of one outer coordinate read the same block of the third operand. -/
theorem inputBlock_congr (c : Dev nD) (s t : Fin cfg0.N) (h : s.val / 16 = t.val / 16) :
    inputBlock m c s = inputBlock m c t := by
  have hs := point_lt s
  have ht := point_lt t
  funext z
  rw [inputBlock_apply m c s (by omega), inputBlock_apply m c t (by omega)]
  simp only [h]

/-- The first window's staging buffer at a point. -/
abbrev stage0 (t : Fin cfg0.N) : Memref sig .tc .vmem S1x128 .f32 := win0_0.stage (cfg0.slots t 0)
/-- The second window's. -/
abbrev stage1 (t : Fin cfg0.N) : Memref sig .tc .vmem S1x128 .f32 := win0_1.stage (cfg0.slots t 1)
/-- The third window's. -/
abbrev stage2 (t : Fin cfg0.N) : Memref sig .tc .vmem S1x128x16384 .f32 := win0_2.stage (cfg0.slots t 2)
/-- The output window's. -/
abbrev stage3 (t : Fin cfg0.N) : Memref sig .tc .vmem S1x128x256 .f32 := win0_3.stage (cfg0.slots t 3)
/-- The scratch. -/
abbrev scratch : Memref sig .tc .vmem S16392x128 .f32 := Memref.whole cc0_scratch0

/-- The block the kernel leaves in the output window at a point. -/
def outBlock (c : Dev nD) (t : Fin cfg0.N) : Vec F S1x128x256 .f32 :=
  result (grid0.coords t) (filled (inputBlock m c t)) (halfAlpha (iblk m c 1 t)) (threshold (iblk m c 0 t))
    (twoInvAlpha (iblk m c 1 t))

/-- The scratch before point `t`: from the second point on it holds the transposed block of the point before. -/
def tracked (c : Dev nD) (t : Fin (cfg0.N + 1)) : sProp 𝕄 :=
  iprop((∃ X, ⌜∀ s : Fin cfg0.N, s.val + 1 = t.val → X = filled (inputBlock m c s)⌝
      ∗ owns (c : Thread nD τ) scratch fullShare X)
    ∗ (∃ r, prngReg c r))

/-- The class invariant is the scratch and the generator register, at some contents. -/
theorem classInv_eq (c : Dev nD) : (Pipeline.ΦA spec0 c : sProp 𝕄)
    = iprop((∃ X, owns (c : Thread nD τ) scratch fullShare X) ∗ (∃ r, prngReg c r)) := by
  unfold Pipeline.ΦA
  rw [scopedRest0_eq]
  simp only [scratch, owns_whole]
  try rfl

/-- The proof data of the launch: the arrays as the region finds them, each input block kept, the output block computed,
    the scratch tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock m c t
  Φ t := tracked m c t
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outBlock m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The body at a point. -/
def bodyAt (t : Fin cfg0.N) :=
  cc0__pool_kernel (F := F) (grid0.coords t) (stage0 t) (hstage0_0 ((cfg0.slots t 0).cast nbuf0_0))
    (stage1 t) (hstage0_1 ((cfg0.slots t 1).cast nbuf0_1)) (stage2 t) (hstage0_2 ((cfg0.slots t 2).cast nbuf0_2))
    (stage3 t) (hstage0_3 ((cfg0.slots t 3).cast nbuf0_3)) scratch (Memref.isWhole_whole _)

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d)))

/-- What the body leaves at a point. -/
def bodyPost (c : Dev nD) (t : Fin cfg0.N) : sProp 𝕄 :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t)
    ∗ owns (c : Thread nD τ) (stage3 t) fullShare ((dats m 0 c).after 3 t))

/-- Where the scratch is not filled, what it held after the point before is this point's transposed block. -/
theorem kept (c : Dev nD) (t : Fin cfg0.N) (X : Vec F S16392x128 .f32)
    (h : ∀ s : Fin cfg0.N, s.val + 1 = t.castSucc.val → X = filled (inputBlock m c s)) (hf : ¬ fills (grid0.coords t)) :
    X = filled (inputBlock m c t) := by
  have ht := point_lt t
  have hm : t.val % 16 ≠ 0 := fun e => hf ((fills_iff t).2 e)
  have hlt : t.val - 1 < cfg0.N := lt_of_le_of_lt (Nat.sub_le _ _) t.isLt
  rw [h ⟨t.val - 1, hlt⟩ (show t.val - 1 + 1 = t.val by omega),
    inputBlock_congr m c ⟨t.val - 1, hlt⟩ t (show (t.val - 1) / 16 = t.val / 16 by omega)]

/-- The body at a point, from what it is given to what it leaves. -/
theorem bodyAt_sound (c : Dev nD) (t : Fin cfg0.N) :
    bodyPre m c t ⊢ wp frame (wpE defs₀ Variants.none c none) Set.univ (bodyAt (F := F) t) (fun _ => bodyPost m c t) := by
  have ho : (dats m 0 c).owesAt () t.succ = (dats m 0 c).owesAt () t.castSucc := rfl
  have hΦ : (dats m 0 c).Φ t.castSucc = tracked m c t.castSucc := rfl
  have hΦ' : (dats m 0 c).Φ t.succ = tracked m c t.succ := rfl
  unfold bodyPre bodyPost bodyAt
  simp only [before_0, before_1, before_2, after_0, after_1, after_2, after_3, ho, hΦ, hΦ', tracked]
  iintro ⟨⟨⟨%X, %hX, HS⟩, HR⟩, HO, ⟨%d0, H0⟩, ⟨%d1, H1⟩, ⟨%d2, H2⟩, ⟨%d3, H3⟩⟩
  iapply body_owned c Set.univ (grid0.coords t) (stage0 t) (stage1 t) (stage2 t) (stage3 t) scratch
    _ _ _ _ _ (iblk m c 0 t) (iblk m c 1 t) (inputBlock m c t)
  isplitl [H0]
  · iexact H0
  isplitl [H1]
  · iexact H1
  isplitl [H2]
  · iexact H2
  isplitl [H3]
  · iexists ((dats m 0 c).before 3 t d3)
    iexact H3
  isplitl [HS]
  · iexists X
    isplitr
    · ipureintro
      exact kept m c t X hX
    · iexact HS
  iintro H0 H1 H2 H3 HS
  isplitl [HS HR]
  · isplitl [HS]
    · iexists (filled (inputBlock m c t))
      isplitr
      · ipureintro
        intro s hs
        have e : s = t := Fin.ext (Nat.succ_injective hs)
        rw [e]
      · iexact HS
    · iexact HR
  isplitl [HO]
  · iexact HO
  isplitl [H0]
  · iexact H0
  isplitl [H1]
  · iexact H1
  isplitl [H2]
  · iexact H2
  · unfold outBlock
    iexact H3

theorem body_row (t : Fin cfg0.N) : defs₀ (F := F) .tc cfg0.body (cfg0.bodyArgs t (cfg0.slots t)) = bodyAt t := by
  unfold defs₀
  rw [Defs.onTc_tc]
  rfl

/-- The obligation of the launch, at every point. -/
theorem obligation (c : Dev nD) : BodyObligation (dats m 0 c) (defs₀ (F := F)) Variants.none () Set.univ := fun t => by
  rw [bigSep_W0, bigSep_W0, body_row]
  exact triple_restated (bodyAt_sound m c t) rfl .rfl fun _ => .rfl

/-- The scratch at some contents is tracked before the first point. -/
theorem tracked_first (c : Dev nD) : (Pipeline.ΦA spec0 c : sProp 𝕄) ⊢ tracked m c 0 := by
  rw [classInv_eq]
  unfold tracked
  iintro ⟨⟨%X, HS⟩, HR⟩
  isplitl [HS]
  · iexists X
    isplitr
    · ipureintro
      intro s hs
      exact absurd hs (Nat.succ_ne_zero _)
    · iexact HS
  · iexact HR

/-- Tracked, the scratch is at some contents. -/
theorem tracked_forget (c : Dev nD) (t : Fin (cfg0.N + 1)) : tracked m c t ⊢ (Pipeline.ΦA spec0 c : sProp 𝕄) := by
  rw [classInv_eq]
  unfold tracked
  iintro ⟨⟨%X, %hX, HS⟩, HR⟩
  isplitl [HS]
  · iexists X
    iexact HS
  · iexact HR

set_option backward.isDefEq.respectTransparency.types false in
/-- Every run ends with the arrays at the contents the proof data gives them and all counters 0. -/
theorem run_post : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => tracked_first m c) (hout := fun c => tracked_forget m c _)

end Cert.KernelIdeal.Pool

end
-- ==== Proof.Output.lean ====
/-
  The output array of the idealized kernel after the run: every element is the element of one grid point's block.
-/
module

public import proofs.«01_k».proof.Proof.Launch
public import Idealize.ShloMosaic.Lib.Pipeline.ValueKit.Geometry

@[expose] public section

set_option maxRecDepth 16384

noncomputable section

namespace Cert.KernelIdeal.Pool

open Idealize.ShloMosaic Idealize.ShloMosaic.TcCoe Idealize.ShloMosaic.Tactic
open Idealize.ShloMosaic.Pipeline (Dat Cfg Window)
open Idealize.SL.Sem
open Cert.KernelIdeal Cert.KernelIdeal.Gen Idealize.ShloMosaic.ValueIdx

variable {F : FTy → Type} [FloatOps F]
variable (m : (ℓ : Loc nD τ sig) → Buf (Elt F) ℓ) (ρ : Dev nD → PrngReg)

/-- The grid point that writes row `b`, column `w` of the output. -/
def pointOf (b w : ℕ) (hb : b < 16) (hw : w < 4095) : Fin cfg0.N :=
  ⟨16 * b + w / 256, by rw [show cfg0.N = 256 from N_0]; omega⟩

/-- The output array: at each index the element of the block of the point that writes it. -/
def outArray (c : Dev nD) : Vec F S16x128x4095 .f32 := fun i =>
  outBlock m c (pointOf (i 0).val (i 2).val (i 0).isLt (i 2).isLt)
    (ix3 (0 : Fin 1) (i 1) (⟨(i 2).val % 256, Nat.mod_lt _ (by decide)⟩ : Fin 256))

/-- An element of the output array at coordinates of point `t`'s block is that block's element. -/
theorem outArray_of_coords (c : Dev nD) (t : Fin cfg0.N) (z : S1x128x256.Idx) (e : S16x128x4095.Idx)
    (e0 : (e 0).val = t.val / 16) (e1 : (e 1).val = (z 1).val) (e2 : (e 2).val = t.val % 16 * 256 + (z 2).val) :
    outArray m c e = outBlock m c t z := by
  have ht := point_lt t
  have hz0 : (z 0).val < 1 := (z 0).isLt
  have hz2 : (z 2).val < 256 := (z 2).isLt
  have hp : pointOf (e 0).val (e 2).val (e 0).isLt (e 2).isLt = t := Fin.ext (by
    show 16 * (e 0).val + (e 2).val / 256 = t.val
    rw [e0, e2]; omega)
  unfold outArray
  rw [hp]
  congr 1
  funext a
  apply Fin.ext
  match a with
  | ⟨0, _⟩ => show 0 = (z 0).val; omega
  | ⟨1, _⟩ => exact e1
  | ⟨2, _⟩ => show (e 2).val % 256 = (z 2).val; rw [e2]; omega

/-- The output window's block numbers at a point: outer coordinate, 0, inner coordinate. -/
theorem index3 (t : Fin cfg0.N) : win0_3.index t 0 = t.val / 16 ∧ win0_3.index t 2 = t.val % 16 := by
  have ht := point_lt t
  constructor
  · show (BitVec.ofNat 32 (grid0.coords t 0).val).toNat = _
    rw [outer_val, BitVec.toNat_ofNat]
    omega
  · show (BitVec.ofNat 32 (grid0.coords t 1).val).toNat = _
    rw [inner_val, BitVec.toNat_ofNat]
    omega

/-- After all points the output array is `outArray`. -/
theorem arrAt_out (c : Dev nD) : (dats m 0 c).arrAt 3 cfg0.N = outArray m c := by
  refine (dats m 0 c).arrAt_eq_of_covers 3 _ (by decide +kernel) fun t hf y => ?_
  rw [after_3]
  obtain ⟨h0, h2⟩ := index3 t
  have hy0 : (y 0).val < 1 := lt_of_lt_of_le (y 0).isLt ((cfg0.win 3).xsize_le _ 0)
  refine (outArray_of_coords m c t ((cfg0.win 3).xinj (cfg0.grid.coords t) y) _ ?_ ?_ ?_).symm
  · show win0_3.index t 0 * 1 + 1 * (y 0).val = t.val / 16
    rw [h0]; omega
  · show 0 * 128 + 1 * (y 1).val = (y 1).val
    omega
  · show win0_3.index t 2 * 256 + 1 * (y 2).val = t.val % 16 * 256 + (y 2).val
    rw [h2]; omega

/-- Every run of the idealized kernel ends with its result at `outArray`, its arguments unchanged and all counters 0. -/
theorem run_out : θ_run defs (onTc (τ := τ) (main (F := F))) ⟨m, fun _ => 0, ρ⟩ fun r =>
    (∀ c : Dev nD, r.2.mem ((c.tc : Thread nD τ).loc main_v0) = outArray m c) ∧ r.2.sem = fun _ => 0 :=
  (θ_run defs _ _).mono (fun _ h => ⟨fun c => ((h.1 c).1 3).trans (arrAt_out m c), h.2⟩) (run_post m ρ)

/-- Every run of the idealized kernel leaves its arguments unchanged. -/
theorem run_args : θ_run defs (onTc (τ := τ) (main (F := F))) ⟨m, fun _ => 0, ρ⟩ fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  frame_of m ρ (dats m) (A_eq m) ((θ_run defs _ _).mono (fun _ h => h.1) (run_post m ρ))

end Cert.KernelIdeal.Pool

end
-- ==== Proof.Read.lean ====
/-
  The output block read at an index: which chunk, which row of the chunk, and which rows of the scratch.
-/
module

public import proofs.«01_k».proof.Proof.Triple
public import Idealize.ShloMosaic.Lib.WordCmp

@[expose] public section

noncomputable section

namespace Cert.KernelIdeal.Pool

open Idealize.ShloMosaic Idealize.ShloMosaic.TcCoe Idealize.ShloMosaic.Tactic
open Cert.KernelIdeal Cert.KernelIdeal.Gen Idealize.ShloMosaic.ValueIdx

variable {F : FTy → Type} [FloatOps F]

/-- A row broadcast over 32 rows, read at an index: the row's element in that lane. -/
theorem row_apply (v : FVec F S1x128 .f32) (r : Fin 32) (ch : Fin 128) :
    broadcastTo S32x128 v broadcasts_S1x128_S32x128 (ix2 r ch) = v (ix2 (0 : Fin 1) ch) :=
  broadcastTo_apply v broadcasts_S1x128_S32x128 (ix2 r ch) (ix2 (0 : Fin 1) ch)
    (fun a => by match a with | ⟨0, _⟩ => rfl | ⟨1, _⟩ => rfl)

/-- Four chunks stacked, read at an index. -/
theorem stacked_apply (rs : Fin 4 → FVec F S32x128 .f32) (ch : Fin 128) (j : Fin 4) (r : Fin 32) (l : Fin 128)
    (hl : l.val = 32 * j.val + r.val) :
    stacked (rs 0) (rs 1) (rs 2) (rs 3) (ix3 (0 : Fin 1) ch l) = rs j (ix2 r ch) := by
  unfold stacked
  rw [show ∀ v : FVec F S128x128 .f32, shapeCast S1x128x128 v shapeCasts_S128x128_S1x128x128 (ix3 (0 : Fin 1) ch l)
      = v (ix2 ch l) from fun v => (shapeCast_addUnit_apply ![128, 128] v shapeCasts_S128x128_S1x128x128 (ix3 (0 : Fin 1) ch l)).trans
        (congrArg v (Shape.idx_ext₂ rfl rfl)),
    transpose_apply (s := S128x128) (t := S128x128) [1, 0] _ transposes_S128x128_p1_0_S128x128 (ix2 ch l) (ix2 l ch)
      (fun i => by match i with | ⟨0, _⟩ => rfl | ⟨1, _⟩ => rfl)]
  refine concatenate_apply_piece (t := S128x128) 0 _ _ (ix2 l ch) j.val (by exact j.isLt) S32x128 (rs j)
    (by fin_cases j <;> rfl) rfl (32 * j.val) (by fin_cases j <;> rfl) (ix2 r ch) (fun b hb => ?_) hl.symm
  match b with
  | ⟨0, _⟩ => exact absurd rfl hb
  | ⟨1, _⟩ => rfl

/-- The output block read at an index: the element of the chunk that holds its column. -/
theorem result_apply (i : grid0.Coords) (X : Vec F S16392x128 .f32) (ha t8 inv : FVec F S1x128 .f32)
    (ch : Fin 128) (j : Fin 8) (r : Fin 32) (l : Fin 256) (hl : l.val = 32 * j.val + r.val) :
    result i X ha t8 inv (ix3 (0 : Fin 1) ch l) = chunkOf i X ha t8 inv j (ix2 r ch) := by
  have hr := r.isLt
  have hj := j.isLt
  unfold result halves
  by_cases h4 : j.val < 4
  · rw [dif_pos (show l.val < 128 by omega)]
    exact (stacked_apply (fun n : Fin 4 => chunkOf i X ha t8 inv ⟨n.val, by omega⟩) ch ⟨j.val, h4⟩ r _ hl)
  · rw [dif_neg (show ¬ l.val < 128 by omega)]
    refine (stacked_apply (fun n : Fin 4 => chunkOf i X ha t8 inv ⟨n.val + 4, by omega⟩) ch ⟨j.val - 4, by omega⟩ r _
      (show l.val - 128 = 32 * (j.val - 4) + r.val by omega)).trans ?_
    exact congrArg (fun n : Fin 8 => chunkOf i X ha t8 inv n (ix2 r ch)) (Fin.ext (show j.val - 4 + 4 = j.val by omega))

/-- The first row of a slice of the scratch. -/
theorem slice_row (i : grid0.Coords) (j k : Fin 8) :
    k0_off1 i (BitVec.ofNat 32 (128 * j.val)) (BitVec.ofNat 32 k.val) 0 = 1024 * (i 1).val + 128 * j.val + k.val := by
  have hi : (i 1).val < 16 := (i 1).isLt
  have hj := j.isLt
  have hk := k.isLt
  unfold k0_off1
  show (_ : BitVec 32).toNat = _
  simp only [Scalar.addi, Scalar.muli, Scalar.indexCast, IntOp.addi, IntOp.muli, BitVec.toNat_add, BitVec.toNat_mul,
    BitVec.toNat_ofNat]
  omega

/-- A row number of a slice is a row of the scratch. -/
theorem slice_lt (i : grid0.Coords) (j k : Fin 8) (r : Fin 32) :
    1024 * (i 1).val + 128 * j.val + k.val + 4 * r.val < 16392 := by
  have hi : (i 1).val < 16 := (i 1).isLt
  have hj := j.isLt
  have hk := k.isLt
  have hr := r.isLt
  omega

/-- A slice of the scratch read at an index. -/
theorem sliceRaw_apply (i : grid0.Coords) (X : Vec F S16392x128 .f32) (j k : Fin 8) (r : Fin 32) (ch : Fin 128) :
    sliceRaw i X j k (ix2 r ch)
      = X (ix2 (⟨1024 * (i 1).val + 128 * j.val + k.val + 4 * r.val, slice_lt i j k r⟩ : Fin 16392) ch) := by
  unfold sliceRaw
  refine congrArg X (Shape.idx_ext₂ ?_ ?_)
  · show k0_off1 i (BitVec.ofNat 32 (128 * j.val)) (BitVec.ofNat 32 k.val) 0 + 4 * r.val = _
    rw [slice_row]
  · show 0 + 1 * ch.val = ch.val
    omega

end Cert.KernelIdeal.Pool

end
-- ==== Proof.Bisection.lean ====
/-
  The mathematics over the reals: the bisection on an interval, which compares a mean of sigmoids with a quantile, and the
  bisection on a centre and a step length, which compares a sum of hyperbolic tangents with a threshold, agree.
-/
module

public import Mathlib.Analysis.SpecialFunctions.Trigonometric.DerivHyp
public import Mathlib.Tactic.FieldSimp
public import Mathlib.Tactic.Ring
public import Mathlib.Tactic.Linarith
public import Mathlib.Tactic.LinearCombination
public import Mathlib.Tactic.Positivity

@[expose] public section

noncomputable section

namespace Cert.Bisection

/-- The sigmoid. -/
def sigmoid (z : ℝ) : ℝ := 1 / (1 + Real.exp (-z))

/-- The hyperbolic tangent of a half is twice the sigmoid, less one. -/
theorem tanh_half (z : ℝ) : Real.tanh (z / 2) = 2 * sigmoid z - 1 := by
  have e1 : Real.exp (z / 2) * Real.exp (-(z / 2)) = 1 := by rw [← Real.exp_add]; simp
  have e2 : Real.exp (-z) = Real.exp (-(z / 2)) * Real.exp (-(z / 2)) := by rw [← Real.exp_add]; ring_nf
  have hp : 0 < Real.exp (z / 2) := Real.exp_pos _
  have hn : 0 < Real.exp (-(z / 2)) := Real.exp_pos _
  rw [Real.tanh_eq_sinh_div_cosh, Real.sinh_eq, Real.cosh_eq, sigmoid, e2]
  have h1 : Real.exp (z / 2) + Real.exp (-(z / 2)) ≠ 0 := by positivity
  have h2 : 1 + Real.exp (-(z / 2)) * Real.exp (-(z / 2)) ≠ 0 := by positivity
  field_simp
  linear_combination (2 * Real.exp (-(z / 2))) * e1

/-- The smallest of eight values. -/
def lowest (x : Fin 8 → ℝ) : ℝ := min (min (min (min (min (min (min (x 0) (x 1)) (x 2)) (x 3)) (x 4)) (x 5)) (x 6)) (x 7)

/-- The greatest of eight values. -/
def highest (x : Fin 8 → ℝ) : ℝ := max (max (max (max (max (max (max (x 0) (x 1)) (x 2)) (x 3)) (x 4)) (x 5)) (x 6)) (x 7)

/-- The smallest of eight values scaled by a nonnegative factor. -/
theorem lowest_scale (A : ℝ) (hA : 0 ≤ A) (x : Fin 8 → ℝ) : lowest (fun k => A * x k) = A * lowest x := by
  simp only [lowest, mul_min_of_nonneg _ _ hA]

/-- The greatest of eight values scaled by a nonnegative factor. -/
theorem highest_scale (A : ℝ) (hA : 0 ≤ A) (x : Fin 8 → ℝ) : highest (fun k => A * x k) = A * highest x := by
  simp only [highest, mul_max_of_nonneg _ _ hA]

/-- The interval: its middle is too high. -/
def high (α q : ℝ) (x : Fin 8 → ℝ) (lo hi : ℝ) : Prop :=
  q < (∑ k, sigmoid (α * (1 / 2 * (lo + hi) - x k))) / 8

open Classical in
/-- The interval after `n` steps. -/
def interval (α q : ℝ) (x : Fin 8 → ℝ) : ℕ → ℝ × ℝ
  | 0 => (lowest x - 2 / α, highest x + 2 / α)
  | n + 1 =>
    let s := interval α q x n
    if high α q x s.1 s.2 then (s.1, 1 / 2 * (s.1 + s.2)) else (1 / 2 * (s.1 + s.2), s.2)

open Classical in
/-- The centre after one step of length `d`. -/
def centre (t : ℝ) (v : Fin 8 → ℝ) (y d : ℝ) : ℝ :=
  y + if t < ∑ k, Real.tanh (y - v k) then 0 - d else d

/-- The centre after `n` steps from `y`, the first of length `d`. -/
def centres (t : ℝ) (v : Fin 8 → ℝ) : ℕ → ℝ → ℝ → ℝ
  | 0, y, _ => y
  | n + 1, y, d => centres t v n (centre t v y d) (1 / 2 * d)

/-- The two comparisons agree. -/
theorem high_iff (α q : ℝ) (x : Fin 8 → ℝ) (lo hi : ℝ) :
    8 * (2 * q - 1) < ∑ k, Real.tanh (1 / 2 * α * (1 / 2 * (lo + hi)) - 1 / 2 * α * x k) ↔ high α q x lo hi := by
  have e : ∀ k, Real.tanh (1 / 2 * α * (1 / 2 * (lo + hi)) - 1 / 2 * α * x k)
      = 2 * sigmoid (α * (1 / 2 * (lo + hi) - x k)) - 1 := fun k => by
    rw [← tanh_half]; congr 1; ring
  simp only [e, high, Finset.sum_sub_distrib, ← Finset.mul_sum, Finset.sum_const, Finset.card_univ, Fintype.card_fin]
  rw [lt_div_iff₀ (by norm_num)]
  simp only [nsmul_eq_mul, Nat.cast_ofNat]
  constructor <;> intro h <;> linarith

/-- One step from a centre and length that stand for an interval leads to those that stand for the next interval. -/
theorem centre_interval (α q : ℝ) (x : Fin 8 → ℝ) (n : ℕ) :
    centre (8 * (2 * q - 1)) (fun k => 1 / 2 * α * x k)
        (1 / 2 * α * (1 / 2 * ((interval α q x n).1 + (interval α q x n).2)))
        (1 / 2 * α * ((interval α q x n).2 - (interval α q x n).1) / 4)
      = 1 / 2 * α * (1 / 2 * ((interval α q x (n + 1)).1 + (interval α q x (n + 1)).2))
    ∧ 1 / 2 * (1 / 2 * α * ((interval α q x n).2 - (interval α q x n).1) / 4)
      = 1 / 2 * α * ((interval α q x (n + 1)).2 - (interval α q x (n + 1)).1) / 4 := by
  have hc := high_iff α q x (interval α q x n).1 (interval α q x n).2
  unfold centre
  rw [interval]
  by_cases h : high α q x (interval α q x n).1 (interval α q x n).2
  · rw [if_pos (hc.2 h)]
    simp only [if_pos h]
    constructor <;> ring
  · rw [if_neg (mt hc.1 h)]
    simp only [if_neg h]
    constructor <;> ring

/-- The centre `k` steps after one that stands for the interval of step `n` stands for the interval of step `n + k`. -/
theorem centres_interval (α q : ℝ) (x : Fin 8 → ℝ) (k n : ℕ) :
    centres (8 * (2 * q - 1)) (fun k => 1 / 2 * α * x k) k
        (1 / 2 * α * (1 / 2 * ((interval α q x n).1 + (interval α q x n).2)))
        (1 / 2 * α * ((interval α q x n).2 - (interval α q x n).1) / 4)
      = 1 / 2 * α * (1 / 2 * ((interval α q x (n + k)).1 + (interval α q x (n + k)).2)) := by
  induction k generalizing n with
  | zero => rfl
  | succ k ih =>
    obtain ⟨h1, h2⟩ := centre_interval α q x n
    rw [centres, h1, h2, ih (n + 1), Nat.add_right_comm, Nat.add_assoc]

/-- The result of the centre bisection on the scaled values is the middle of the interval after 20 steps. -/
theorem centres_eq (a q : ℝ) (x : Fin 8 → ℝ) :
    centres (8 * (2 * q - 1)) (fun k => 1 / 2 * Real.exp a * x k) 20
        (1 / 2 * (lowest (fun k => 1 / 2 * Real.exp a * x k) + highest (fun k => 1 / 2 * Real.exp a * x k)))
        (1 / 4 * (highest (fun k => 1 / 2 * Real.exp a * x k) - lowest (fun k => 1 / 2 * Real.exp a * x k)) + 1 / 2)
        * (2 * Real.exp (0 - a))
      = 1 / 2 * ((interval (Real.exp a) q x 20).1 + (interval (Real.exp a) q x 20).2) := by
  have hp : 0 < Real.exp a := Real.exp_pos a
  have hA : 0 ≤ 1 / 2 * Real.exp a := by positivity
  have hinv : Real.exp (0 - a) = 1 / Real.exp a := by rw [zero_sub, Real.exp_neg, one_div]
  have h := centres_interval (Real.exp a) q x 20 0
  rw [Nat.zero_add] at h
  have e1 : 1 / 2 * Real.exp a * (1 / 2 * ((interval (Real.exp a) q x 0).1 + (interval (Real.exp a) q x 0).2))
      = 1 / 2 * (1 / 2 * Real.exp a * lowest x + 1 / 2 * Real.exp a * highest x) := by
    simp only [interval]; ring
  have e2 : 1 / 2 * Real.exp a * ((interval (Real.exp a) q x 0).2 - (interval (Real.exp a) q x 0).1) / 4
      = 1 / 4 * (1 / 2 * Real.exp a * highest x - 1 / 2 * Real.exp a * lowest x) + 1 / 2 := by
    simp only [interval]; field_simp; ring
  rw [e1, e2] at h
  rw [lowest_scale _ hA, highest_scale _ hA, h, hinv]
  field_simp

end Cert.Bisection

end
-- ==== Proof.Scalars.lean ====
/-
  The ideal operations on real numbers inside the extended reals: each gives the real operation's value.
-/
module

public import Idealize.ShloMosaic.PureOps.Ideal
public import proofs.«01_k».proof.Proof.Bisection

@[expose] public section

noncomputable section

namespace Cert.Bisection

open Idealize.ShloMosaic

/-- The rank-one index of a channel. -/
def lane (ch : Fin 128) : (⟨1, ![128]⟩ : Shape).Idx := fun a => match a with | ⟨0, _⟩ => ch

/-- The word of one half. -/
theorem word_half : Ideal.ofBits .f32 0x3F000000#32 = ((1 / 2 : ℝ) : EReal) := by
  simp [Ideal.ofBits, Ideal.ieee, -EReal.coe_mul]; norm_num

/-- The word of one quarter. -/
theorem word_quarter : Ideal.ofBits .f32 0x3E800000#32 = ((1 / 4 : ℝ) : EReal) := by
  simp [Ideal.ofBits, Ideal.ieee, -EReal.coe_mul]; norm_num

/-- The word of one. -/
theorem word_one : Ideal.ofBits .f32 0x3F800000#32 = ((1 : ℝ) : EReal) := by
  simp [Ideal.ofBits, Ideal.ieee, -EReal.coe_mul]; norm_num

/-- The word of two. -/
theorem word_two : Ideal.ofBits .f32 0x40000000#32 = ((2 : ℝ) : EReal) := by
  simp [Ideal.ofBits, Ideal.ieee, -EReal.coe_mul]; norm_num

/-- The word of eight. -/
theorem word_eight : Ideal.ofBits .f32 0x41000000#32 = ((8 : ℝ) : EReal) := by
  simp [Ideal.ofBits, Ideal.ieee, -EReal.coe_mul]; norm_num

/-- The word of zero. -/
theorem word_zero : Ideal.ofBits .f32 0x00000000#32 = ((0 : ℝ) : EReal) := by
  simp [Ideal.ofBits, Ideal.ieee]

/-- The word of plus infinity. -/
theorem word_top : Ideal.ofBits .f32 0x7F800000#32 = ⊤ := by simp [Ideal.ofBits, Ideal.ieee]

/-- The word of minus infinity. -/
theorem word_bot : Ideal.ofBits .f32 0xFF800000#32 = ⊥ := by simp [Ideal.ofBits, Ideal.ieee]

/-- The smaller of two reals. -/
theorem coe_min (x y : ℝ) : min (x : EReal) (y : EReal) = ((min x y : ℝ) : EReal) :=
  (EReal.coe_strictMono.monotone.map_min).symm

/-- The greater of two reals. -/
theorem coe_max (x y : ℝ) : max (x : EReal) (y : EReal) = ((max x y : ℝ) : EReal) :=
  (EReal.coe_strictMono.monotone.map_max).symm

/-- The hyperbolic tangent of a real. -/
theorem coe_tanh (x : ℝ) : Ideal.tanh (x : EReal) = ((Real.tanh x : ℝ) : EReal) := rfl

/-- The quotient of two reals, the second not zero. -/
theorem coe_div (x y : ℝ) (h : y ≠ 0) : Ideal.div (x : EReal) (y : EReal) = ((x / y : ℝ) : EReal) := by
  rw [Ideal.div_coe h, ← EReal.coe_mul]
  congr 1
  ring

/-- The comparison of two reals. -/
theorem coe_gt (x y : ℝ) : Ideal.cmp .ogt (x : EReal) (y : EReal) = 1#1 ↔ y < x := by
  simp only [Ideal.cmp, EReal.coe_lt_coe_iff]
  by_cases h : y < x <;> simp [h]

/-- The sigmoid of a real, as the ideal operations compute it. -/
theorem coe_sigmoid (z : ℝ) :
    Ideal.div ((1 : ℝ) : EReal) (((1 : ℝ) : EReal) + Ideal.exp (-(z : EReal))) = ((sigmoid z : ℝ) : EReal) := by
  have hp : (0 : ℝ) < 1 + Real.exp (-z) := by positivity
  rw [← EReal.coe_neg, Ideal.exp_coe, ← EReal.coe_add, coe_div _ _ hp.ne']
  rfl

/-- The sigmoid of any extended real is a real. -/
theorem sigmoid_real (z : EReal) :
    ∃ q : ℝ, Ideal.div ((1 : ℝ) : EReal) (((1 : ℝ) : EReal) + Ideal.exp (-z)) = (q : EReal) := by
  induction z with
  | bot =>
    refine ⟨0, ?_⟩
    rw [EReal.neg_bot, show Ideal.exp ⊤ = ⊤ from rfl, EReal.coe_add_top]
    simp [Ideal.div]
  | coe z => exact ⟨_, coe_sigmoid z⟩
  | top =>
    refine ⟨1, ?_⟩
    rw [EReal.neg_top, show Ideal.exp ⊥ = ((0 : ℝ) : EReal) from rfl, ← EReal.coe_add, coe_div _ _ (by norm_num)]
    norm_num

/-- A sum of eight terms in any extended reals that are reals. -/
theorem coe_sum (f : Fin 8 → ℝ) : (∑ k, (f k : EReal)) = ((∑ k, f k : ℝ) : EReal) := by
  simp only [Fin.sum_univ_eight, EReal.coe_add]

end Cert.Bisection

end
-- ==== Proof.KernelValue.lean ====
/-
  One element of the output block over the ideal values: where the operands are real numbers it is a real number, the
  result of the bisection on a centre and a step length.
-/
module

public import proofs.«01_k».proof.Proof.Read
public import proofs.«01_k».proof.Proof.Scalars

@[expose] public section

noncomputable section

namespace Cert.KernelIdeal.Pool

open Idealize.ShloMosaic Idealize.ShloMosaic.TcCoe Idealize.ShloMosaic.Tactic
open Cert.KernelIdeal Cert.KernelIdeal.Gen Idealize.ShloMosaic.ValueIdx Cert.Bisection

/-- One step of the centre, at an index where everything is real. -/
theorem centre_apply (t8 : FVec Ideal S1x128 .f32) (v : Fin 8 → FVec Ideal S32x128 .f32) (y d : FVec Ideal S32x128 .f32)
    (r : Fin 32) (ch : Fin 128) (t a b : ℝ) (x : Fin 8 → ℝ) (ht : t8 (ix2 0 ch) = (t : EReal))
    (hv : ∀ k, v k (ix2 r ch) = (x k : EReal)) (hy : y (ix2 r ch) = (a : EReal)) (hd : d (ix2 r ch) = (b : EReal)) :
    Pool.centre t8 (v 0) (v 1) (v 2) (v 3) (v 4) (v 5) (v 6) (v 7) y d (ix2 r ch) = ((Bisection.centre t x a b : ℝ) : EReal) := by
  have hs : ∀ k, tanh (subf y (v k)) (ix2 r ch) = ((Real.tanh (a - x k) : ℝ) : EReal) := fun k => by
    show Ideal.tanh (y (ix2 r ch) - v k (ix2 r ch)) = _
    rw [hy, hv, ← EReal.coe_sub, coe_tanh]
  have hsum : addf
        (addf (addf (tanh (subf y (v 0))) (tanh (subf y (v 1)))) (addf (tanh (subf y (v 2))) (tanh (subf y (v 3)))))
        (addf (addf (tanh (subf y (v 4))) (tanh (subf y (v 5)))) (addf (tanh (subf y (v 6))) (tanh (subf y (v 7)))))
        (ix2 r ch) = ((∑ k, Real.tanh (a - x k) : ℝ) : EReal) := by
    simp only [addf_apply, hs, Fin.sum_univ_eight, ← EReal.coe_add]
    congr 1
    ring
  unfold Pool.centre Bisection.centre
  rw [addf_apply, select_apply, cmpf_apply, hsum, row_apply, ht, hy, hd, subf_apply, hd]
  show (a : EReal) + (if Ideal.cmp .ogt _ _ = 1#1 then Ideal.ofBits .f32 0x00000000#32 - (b : EReal) else (b : EReal)) = _
  rw [word_zero, ← EReal.coe_sub]
  simp only [coe_gt]
  split_ifs <;> rw [EReal.coe_add]

/-- Half of the step length, at an index. -/
theorem halve_apply (d : FVec Ideal S32x128 .f32) (r : Fin 32) (ch : Fin 128) (b : ℝ) (hd : d (ix2 r ch) = (b : EReal)) :
    halve d (ix2 r ch) = ((1 / 2 * b : ℝ) : EReal) := by
  show Ideal.ofBits .f32 0x3F000000#32 * d (ix2 r ch) = _
  rw [word_half, hd, ← EReal.coe_mul]

/-- The centre after `n` steps, at an index where everything is real. -/
theorem bisect_apply (t8 : FVec Ideal S1x128 .f32) (v : Fin 8 → FVec Ideal S32x128 .f32) (n : ℕ) (y d : FVec Ideal S32x128 .f32)
    (r : Fin 32) (ch : Fin 128) (t a b : ℝ) (x : Fin 8 → ℝ) (ht : t8 (ix2 0 ch) = (t : EReal))
    (hv : ∀ k, v k (ix2 r ch) = (x k : EReal)) (hy : y (ix2 r ch) = (a : EReal)) (hd : d (ix2 r ch) = (b : EReal)) :
    bisect t8 (v 0) (v 1) (v 2) (v 3) (v 4) (v 5) (v 6) (v 7) n y d (ix2 r ch) = ((centres t x n a b : ℝ) : EReal) := by
  induction n generalizing y d a b with
  | zero => exact hy
  | succ n ih => exact ih _ _ _ _ (centre_apply t8 v y d r ch t a b x ht hv hy hd) (halve_apply d r ch b hd)

/-- The smallest of the eight values, at an index. -/
theorem lowest_apply (v : Fin 8 → FVec Ideal S32x128 .f32) (r : Fin 32) (ch : Fin 128) (x : Fin 8 → ℝ)
    (hv : ∀ k, v k (ix2 r ch) = (x k : EReal)) :
    minimumf (minimumf (minimumf (minimumf (minimumf (minimumf (minimumf (v 0) (v 1)) (v 2)) (v 3)) (v 4)) (v 5)) (v 6)) (v 7)
      (ix2 r ch) = ((lowest x : ℝ) : EReal) := by
  simp only [minimumf_apply, hv, coe_min, lowest]

/-- The greatest of the eight values, at an index. -/
theorem highest_apply (v : Fin 8 → FVec Ideal S32x128 .f32) (r : Fin 32) (ch : Fin 128) (x : Fin 8 → ℝ)
    (hv : ∀ k, v k (ix2 r ch) = (x k : EReal)) :
    maximumf (maximumf (maximumf (maximumf (maximumf (maximumf (maximumf (v 0) (v 1)) (v 2)) (v 3)) (v 4)) (v 5)) (v 6)) (v 7)
      (ix2 r ch) = ((highest x : ℝ) : EReal) := by
  simp only [maximumf_apply, hv, coe_max, highest]

/-- One element of a chunk's result, where everything is real. -/
theorem solve_apply (t8 inv : FVec Ideal S1x128 .f32) (v : Fin 8 → FVec Ideal S32x128 .f32) (r : Fin 32) (ch : Fin 128)
    (t p : ℝ) (x : Fin 8 → ℝ) (ht : t8 (ix2 0 ch) = (t : EReal)) (hp : inv (ix2 0 ch) = (p : EReal))
    (hv : ∀ k, v k (ix2 r ch) = (x k : EReal)) :
    solve t8 inv (v 0) (v 1) (v 2) (v 3) (v 4) (v 5) (v 6) (v 7) (ix2 r ch)
      = ((centres t x 20 (1 / 2 * (lowest x + highest x)) (1 / 4 * (highest x - lowest x) + 1 / 2) * p : ℝ) : EReal) := by
  have hm : middle (v 0) (v 1) (v 2) (v 3) (v 4) (v 5) (v 6) (v 7) (ix2 r ch)
      = ((1 / 2 * (lowest x + highest x) : ℝ) : EReal) := by
    unfold middle
    rw [mulf_apply, addf_apply, lowest_apply v r ch x hv, highest_apply v r ch x hv]
    show Ideal.ofBits .f32 0x3F000000#32 * _ = _
    rw [word_half, ← EReal.coe_add, ← EReal.coe_mul]
  have hs : spread (v 0) (v 1) (v 2) (v 3) (v 4) (v 5) (v 6) (v 7) (ix2 r ch)
      = ((1 / 4 * (highest x - lowest x) + 1 / 2 : ℝ) : EReal) := by
    unfold spread
    rw [addf_apply, mulf_apply, subf_apply, lowest_apply v r ch x hv, highest_apply v r ch x hv]
    show Ideal.ofBits .f32 0x3E800000#32 * _ + Ideal.ofBits .f32 0x3F000000#32 = _
    rw [word_half, word_quarter, ← EReal.coe_sub, ← EReal.coe_mul, ← EReal.coe_add]
  unfold solve
  rw [mulf_apply, bisect_apply t8 v 20 _ _ r ch t _ _ x ht hv hm hs, row_apply, hp, ← EReal.coe_mul]

/-- Half of alpha, in a lane. -/
theorem halfAlpha_apply (a : Vec Ideal S1x128 .f32) (ch : Fin 128) (α : ℝ) (ha : a (ix2 0 ch) = (α : EReal)) :
    halfAlpha a (ix2 0 ch) = ((1 / 2 * Real.exp α : ℝ) : EReal) := by
  unfold halfAlpha
  rw [shapeCast_self]
  show Ideal.ofBits .f32 0x3F000000#32 * Ideal.exp (a (ix2 0 ch)) = _
  rw [ha, word_half, Ideal.exp_coe, ← EReal.coe_mul]

/-- Two over alpha, in a lane. -/
theorem twoInvAlpha_apply (a : Vec Ideal S1x128 .f32) (ch : Fin 128) (α : ℝ) (ha : a (ix2 0 ch) = (α : EReal)) :
    twoInvAlpha a (ix2 0 ch) = ((2 * Real.exp (0 - α) : ℝ) : EReal) := by
  unfold twoInvAlpha
  rw [shapeCast_self]
  show Ideal.ofBits .f32 0x40000000#32 * Ideal.exp (Ideal.ofBits .f32 0x00000000#32 - a (ix2 0 ch)) = _
  rw [ha, word_zero, word_two, ← EReal.coe_sub, Ideal.exp_coe, ← EReal.coe_mul]

/-- The threshold, in a lane: from the sigmoid `q` of the raw quantile there. -/
theorem threshold_apply (qr : Vec Ideal S1x128 .f32) (ch : Fin 128) (q : ℝ)
    (hq : Ideal.div ((1 : ℝ) : EReal) (((1 : ℝ) : EReal) + Ideal.exp (-(qr (ix2 0 ch)))) = (q : EReal)) :
    threshold qr (ix2 0 ch) = ((8 * (2 * q - 1) : ℝ) : EReal) := by
  unfold threshold
  rw [shapeCast_self]
  show Ideal.ofBits .f32 0x41000000#32 * (Ideal.ofBits .f32 0x40000000#32
    * Ideal.div 1 (1 + Ideal.exp (-(qr (ix2 0 ch)))) - Ideal.ofBits .f32 0x3F800000#32) = _
  rw [EReal.coe_one] at hq
  rw [hq, word_one, word_two, word_eight, ← EReal.coe_mul, ← EReal.coe_sub, ← EReal.coe_mul]

/-- One element of the output block: from the eight elements of the input block that its window covers. -/
theorem result_value (i : grid0.Coords) (qr a : Vec Ideal S1x128 .f32) (X : Vec Ideal S1x128x16384 .f32)
    (ch : Fin 128) (l : Fin 256) (q α : ℝ) (x : Fin 8 → ℝ)
    (hq : Ideal.div ((1 : ℝ) : EReal) (((1 : ℝ) : EReal) + Ideal.exp (-(qr (ix2 0 ch)))) = (q : EReal))
    (ha : a (ix2 0 ch) = (α : EReal))
    (hw : 256 * (i 1).val + l.val < 4095)
    (hx : ∀ k : Fin 8, X (ix3 (0 : Fin 1) ch (⟨4 * (256 * (i 1).val + l.val) + k.val, by have := k.isLt; omega⟩ : Fin 16384))
      = (x k : EReal)) :
    result i (filled X) (halfAlpha a) (threshold qr) (twoInvAlpha a) (ix3 (0 : Fin 1) ch l)
      = ((1 / 2 * ((interval (Real.exp α) q x 20).1 + (interval (Real.exp α) q x 20).2) : ℝ) : EReal) := by
  have hl := l.isLt
  rw [result_apply i _ _ _ _ ch ⟨l.val / 32, by omega⟩ ⟨l.val % 32, Nat.mod_lt _ (by decide)⟩ l
    (show l.val = 32 * (l.val / 32) + l.val % 32 by omega)]
  unfold chunkOf
  rw [solve_apply (threshold qr) (twoInvAlpha a) (fun k => sliceOf i (filled X) (halfAlpha a) ⟨l.val / 32, by omega⟩ k)
    ⟨l.val % 32, Nat.mod_lt _ (by decide)⟩ ch (8 * (2 * q - 1)) (2 * Real.exp (0 - α)) (fun k => 1 / 2 * Real.exp α * x k)
    (threshold_apply qr ch q hq) (twoInvAlpha_apply a ch α ha) (fun k => ?_), centres_eq]
  have hk := k.isLt
  unfold sliceOf scaled
  rw [mulf_apply, row_apply, halfAlpha_apply a ch α ha, sliceRaw_apply, EReal.coe_mul (1 / 2 * Real.exp α), ← hx k]
  unfold filled
  rw [dif_pos (show 1024 * (i 1).val + 128 * (l.val / 32) + k.val + 4 * (l.val % 32) < 16384 by omega)]
  congr 3
  exact Fin.ext (show 1024 * (i 1).val + 128 * (l.val / 32) + k.val + 4 * (l.val % 32)
    = 4 * (256 * (i 1).val + l.val) + k.val by omega)

end Cert.KernelIdeal.Pool

end
-- ==== Proof.Inputs.lean ====
/-
  The idealized kernel's result at an index, from its arguments: where the arguments the index depends on are real
  numbers it is the middle of the interval after 20 steps.
-/
module

public import proofs.«01_k».proof.Proof.Output
public import proofs.«01_k».proof.Proof.KernelValue

@[expose] public section

set_option maxRecDepth 16384

noncomputable section

namespace Cert.KernelIdeal.Pool

open Idealize.ShloMosaic Idealize.ShloMosaic.TcCoe Idealize.ShloMosaic.Tactic
open Cert.KernelIdeal Cert.KernelIdeal.Gen Idealize.ShloMosaic.ValueIdx Cert.Bisection

variable {F : FTy → Type} [FloatOps F]
variable (m : (ℓ : Loc nD τ sig) → Buf (Elt F) ℓ)

/-- A reshaped row in a lane is the argument's element of that channel. -/
theorem reshape_lane (v : Vec F S128 .f32) (ch : Fin 128) :
    shapeCast S1x128 v shapeCasts_S128_S1x128 (ix2 (0 : Fin 1) ch) = v (lane ch) :=
  (shapeCast_addUnit_apply ![128] v shapeCasts_S128_S1x128 (ix2 (0 : Fin 1) ch)).trans
    (congrArg v (funext fun a => by match a with | ⟨0, _⟩ => rfl))

/-- The first operand row as the region finds it: the second argument, reshaped. -/
theorem V_row0 (c : Dev nD) : V m c main_call0_v0
    = shapeCast S1x128 (m ((c : Thread nD τ).loc main_arg1)) shapeCasts_S128_S1x128 := by
  unfold V hostOps0
  after_results_simp
  rfl

/-- The second operand row as the region finds it: the third argument, reshaped. -/
theorem V_row1 (c : Dev nD) : V m c main_call0_v1
    = shapeCast S1x128 (m ((c : Thread nD τ).loc main_arg2)) shapeCasts_S128_S1x128 := by
  unfold V hostOps0
  after_results_simp
  rfl

/-- The first window's block in a lane. -/
theorem row0_apply (c : Dev nD) (t : Fin cfg0.N) (ch : Fin 128) :
    (iblk m c 0 t : Vec F S1x128 .f32) (ix2 0 ch) = m ((c : Thread nD τ).loc main_arg1) (lane ch) := by
  rw [← reshape_lane (m ((c : Thread nD τ).loc main_arg1)) ch, ← V_row0]
  unfold iblk
  rw [View.read_apply]
  show V m c main_call0_v0 _ = _
  refine congrArg (V m c main_call0_v0) (funext fun a => Fin.ext ?_)
  match a with
  | ⟨0, _⟩ => rfl
  | ⟨1, _⟩ => show 0 * 128 + 1 * ch.val = ch.val; omega

/-- The second window's block in a lane. -/
theorem row1_apply (c : Dev nD) (t : Fin cfg0.N) (ch : Fin 128) :
    (iblk m c 1 t : Vec F S1x128 .f32) (ix2 0 ch) = m ((c : Thread nD τ).loc main_arg2) (lane ch) := by
  rw [← reshape_lane (m ((c : Thread nD τ).loc main_arg2)) ch, ← V_row1]
  unfold iblk
  rw [View.read_apply]
  show V m c main_call0_v1 _ = _
  refine congrArg (V m c main_call0_v1) (funext fun a => Fin.ext ?_)
  match a with
  | ⟨0, _⟩ => rfl
  | ⟨1, _⟩ => show 0 * 128 + 1 * ch.val = ch.val; omega

/-- The output array's element in batch `b`, channel `ch` and column `w`: where the channel's threshold and the logarithm
    of its scale and the eight samples of the window are real, the middle of the interval after 20 steps. -/
theorem outArray_value (m : (ℓ : Loc nD τ sig) → Buf (Elt Ideal) ℓ) (c : Dev nD) (b : Fin 16) (ch : Fin 128) (w : Fin 4095)
    (X : Vec Ideal S16x128x16384 .f32) (g r : Vec Ideal S128 .f32)
    (hX : m ((c : Thread nD τ).loc main_arg0) = X) (hg : m ((c : Thread nD τ).loc main_arg1) = g)
    (hr : m ((c : Thread nD τ).loc main_arg2) = r)
    (q α : ℝ) (x : Fin 8 → ℝ)
    (hq : Ideal.div ((1 : ℝ) : EReal) (((1 : ℝ) : EReal) + Ideal.exp (-(g (lane ch)))) = (q : EReal))
    (ha : r (lane ch) = (α : EReal))
    (hx : ∀ k : Fin 8, X (ix3 b ch (⟨4 * w.val + k.val, by omega⟩ : Fin 16384)) = (x k : EReal)) :
    outArray m c (ix3 b ch w)
      = ((1 / 2 * ((interval (Real.exp α) q x 20).1 + (interval (Real.exp α) q x 20).2) : ℝ) : EReal) := by
  have hp : (pointOf b.val w.val b.isLt w.isLt).val = 16 * b.val + w.val / 256 := rfl
  have hi : ((grid0.coords (pointOf b.val w.val b.isLt w.isLt)) 1).val = w.val / 256 := by
    rw [inner_val, hp]; omega
  have ho : (pointOf b.val w.val b.isLt w.isLt).val / 16 = b.val := by rw [hp]; omega
  have hcol : 256 * ((grid0.coords (pointOf b.val w.val b.isLt w.isLt)) 1).val + w.val % 256 = w.val := by
    rw [hi]; omega
  refine result_value _ (iblk m c 0 _) (iblk m c 1 _) (inputBlock m c _) ch ⟨w.val % 256, _⟩ q α x ?_ ?_ ?_ ?_
  · rw [row0_apply, hg]; exact hq
  · rw [row1_apply, hr]; exact ha
  · show 256 * _ + w.val % 256 < 4095
    rw [hcol]; exact w.isLt
  · intro k
    rw [inputBlock_apply m c _ (by rw [ho]; exact b.isLt), hX, ← hx k]
    refine congrArg _ (congr (congrArg (fun z => ix3 z ch) (Fin.ext ho)) (Fin.ext ?_))
    show 4 * (256 * _ + w.val % 256) + k.val = _
    rw [hcol]

end Cert.KernelIdeal.Pool

end
-- ==== Proof.RefWindow.lean ====
/-
  The windows the idealized reference gathers: sample `k` of window `w` is sample `4 w + k` of the argument.
-/
module

public import Idealize.ShloMosaic.PureOps.Ideal.Laws
public import Idealize.ShloMosaic.Lib.ValueIdxCore
public import Idealize.ShloMosaic.Lib.Pipeline.Value
public import proofs.«01_k».proof.Proof.Gen.ReferenceIdeal.Step
public import proofs.«01_k».proof.Proof.Scalars

@[expose] public section

set_option maxRecDepth 16384

noncomputable section

namespace Cert.ReferenceIdeal.Reading

open Idealize.ShloMosaic Idealize.ShloMosaic.ValueIdx
open Cert.ReferenceIdeal Cert.ReferenceIdeal.Gen Cert.ReferenceIdeal.Step Cert.Bisection

/-- The start index of sample `k` of window `w`, before the wrap of negative ones: the word of `4 w + k`. -/
theorem start_raw (w : Fin 4095) (k : Fin 8) :
    (K_main_v8 (F := Ideal) : IVec S4095x8 32) (ix2 w k) = BitVec.ofNat 32 (4 * w.val + k.val) := by
  refine BitVec.eq_of_toNat_eq ?_
  show ((BitVec.ofNat 32 w.val * 4#32) + BitVec.ofNat 32 k.val).toNat = _
  simp only [BitVec.toNat_add, BitVec.toNat_mul, BitVec.toNat_ofNat]
  omega

/-- The start index of sample `k` of window `w`: the word of `4 w + k`, which is not negative. -/
theorem start_word (w : Fin 4095) (k : Fin 8) :
    (K_main_v14 (F := Ideal) : IVec S4095x8x1 32) (ix3 w k (0 : Fin 1)) = BitVec.ofNat 32 (4 * w.val + k.val) := by
  have hb : (K_main_v14 (F := Ideal) : IVec S4095x8x1 32) (ix3 w k (0 : Fin 1))
      = (K_main_v13 (F := Ideal) : IVec S4095x8 32) (ix2 w k) := by
    unfold K_main_v14
    refine broadcastInDim_apply (s := S4095x8) (t := S4095x8x1) ![0, 1] bcast_S4095x8_S4095x8x1_0_1 _ (ix3 w k (0 : Fin 1)) (ix2 w k) ?_
    intro a
    match a with
    | ⟨0, _⟩ => exact (if_neg (by decide : ¬ (4095 : ℕ) = 1)).symm
    | ⟨1, _⟩ => exact (if_neg (by decide : ¬ (8 : ℕ) = 1)).symm
  have hc : (K_main_v10 (F := Ideal) : IVec S4095x8 1) (ix2 w k) = 0#1 := by
    show BitVec.ofBool (BitVec.slt ((K_main_v8 (F := Ideal) : IVec S4095x8 32) (ix2 w k)) 0#32) = 0#1
    rw [start_raw]
    have : BitVec.slt (BitVec.ofNat 32 (4 * w.val + k.val)) 0#32 = false := by
      rw [BitVec.slt_eq_decide, decide_eq_false_iff_not, BitVec.toInt_eq_toNat_cond]
      simp only [BitVec.toNat_ofNat, BitVec.toInt_zero]
      have := w.isLt
      have := k.isLt
      split <;> omega
    rw [this]; rfl
  rw [hb, ← start_raw]
  show (if (K_main_v10 (F := Ideal) : IVec S4095x8 1) (ix2 w k) = 1#1 then _ else _) = _
  rw [hc]; rfl

/-- The gathered windows: sample `k` of window `w` is the argument's sample `4 w + k`. -/
theorem window_apply (X : Vec Ideal S16x128x16384 .f32) (g r : Vec Ideal S128 .f32) (b : Fin 16) (ch : Fin 128)
    (w : Fin 4095) (k : Fin 8) :
    (A_main_v15 X g r : Vec Ideal S16x128x4095x8 .f32) (ix4 b ch w k)
      = X (ix3 b ch (⟨4 * w.val + k.val, by omega⟩ : Fin 16384)) := by
  unfold A_main_v15 Host.gather
  refine congrArg X (funext fun a => Fin.ext ?_)
  have hsi : (gather_S16x128x16384_S4095x8x1_S16x128x4095x8_01_2_n_n_2_2_161281).siIdx (ix4 b ch w k) ⟨0, by decide⟩
      = ix3 w k (0 : Fin 1) := by
    funext e; refine Fin.ext ?_
    match e with
    | ⟨0, _⟩ => rfl
    | ⟨1, _⟩ => rfl
    | ⟨2, _⟩ => rfl
  match a with
  | ⟨0, _⟩ => show 0 + 0 + b.val = b.val; omega
  | ⟨1, _⟩ => show 0 + 0 + ch.val = ch.val; omega
  | ⟨2, _⟩ =>
    show min ((K_main_v14 (F := Ideal) : IVec S4095x8x1 32) ((gather_S16x128x16384_S4095x8x1_S16x128x4095x8_01_2_n_n_2_2_161281).siIdx (ix4 b ch w k) ⟨0, by decide⟩)).toInt.toNat (16384 - 1) + 0 + 0 = 4 * w.val + k.val
    rw [hsi, start_word, BitVec.toInt_eq_toNat_cond]
    simp only [BitVec.toNat_ofNat]
    have := w.isLt
    have := k.isLt
    split <;> omega

end Cert.ReferenceIdeal.Reading

end
-- ==== Proof.RefReduce.lean ====
/-
  The idealized reference's reductions over a window: the smallest and the greatest of eight reals.
-/
module

public import Idealize.ShloMosaic.PureOps.Ideal.Laws
public import Idealize.ShloMosaic.Lib.ValueIdxCore
public import Idealize.ShloMosaic.Lib.Pipeline.Value
public import proofs.«01_k».proof.Proof.Gen.ReferenceIdeal.Step
public import proofs.«01_k».proof.Proof.Scalars

@[expose] public section

set_option maxRecDepth 16384

noncomputable section

namespace Cert.ReferenceIdeal.Reading

open Idealize.ShloMosaic Idealize.ShloMosaic.ValueIdx
open Cert.ReferenceIdeal Cert.ReferenceIdeal.Gen Cert.ReferenceIdeal.Step Cert.Bisection

/-- The single-axis reduction fact of the windows. -/
theorem reduces_window : S16x128x4095x8.Reduces [3] S16x128x4095 := by decide

/-- The index of sample `k` over a window's index. -/
theorem lift_window (b : Fin 16) (ch : Fin 128) (w : Fin 4095) (k : Fin 8) :
    reduces_window.lift (ix3 b ch w) k = ix4 b ch w k := by
  funext e; refine Fin.ext ?_
  match e with
  | ⟨0, _⟩ => rfl
  | ⟨1, _⟩ => rfl
  | ⟨2, _⟩ => rfl
  | ⟨3, _⟩ => rfl

/-- The smallest of eight reals, folded from plus infinity. -/
theorem fold_min (x : Fin 8 → ℝ) :
    (Finset.univ : Finset (Fin 8)).fold (min : EReal → EReal → EReal) ⊤ (fun k => (x k : EReal)) = ((lowest x : ℝ) : EReal) := by
  rw [show (Finset.univ : Finset (Fin 8)) = {7, 6, 5, 4, 3, 2, 1, 0} from by decide]
  repeat rw [Finset.fold_insert (by decide)]
  rw [Finset.fold_singleton, min_top_right]
  simp only [coe_min, lowest]
  congr 1
  simp only [min_comm, min_left_comm, min_assoc]

/-- The greatest of eight reals, folded from minus infinity. -/
theorem fold_max (x : Fin 8 → ℝ) :
    (Finset.univ : Finset (Fin 8)).fold (max : EReal → EReal → EReal) ⊥ (fun k => (x k : EReal)) = ((highest x : ℝ) : EReal) := by
  rw [show (Finset.univ : Finset (Fin 8)) = {7, 6, 5, 4, 3, 2, 1, 0} from by decide]
  repeat rw [Finset.fold_insert (by decide)]
  rw [Finset.fold_singleton, max_bot_right]
  simp only [coe_max, highest]
  congr 1
  simp only [max_comm, max_left_comm, max_assoc]

end Cert.ReferenceIdeal.Reading

end
-- ==== Proof.RefInit.lean ====
/-
  The idealized reference's state before its loop, at a window.
-/
module

public import Idealize.ShloMosaic.PureOps.Ideal.Laws
public import Idealize.ShloMosaic.Lib.ValueIdx
public import Idealize.ShloMosaic.Lib.Pipeline.Value
public import proofs.«01_k».proof.Proof.Gen.ReferenceIdeal.Step
public import proofs.«01_k».proof.Proof.Scalars
public import proofs.«01_k».proof.Proof.RefWindow
public import proofs.«01_k».proof.Proof.RefReduce

@[expose] public section

set_option maxRecDepth 16384

noncomputable section

namespace Cert.ReferenceIdeal.Reading

open Idealize.ShloMosaic Idealize.ShloMosaic.ValueIdx
open Cert.ReferenceIdeal Cert.ReferenceIdeal.Gen Cert.ReferenceIdeal.Step Cert.Bisection

section Init
variable (X : Vec Ideal S16x128x16384 .f32) (g r : Vec Ideal S128 .f32) (b : Fin 16) (ch : Fin 128) (w : Fin 4095)

/-- A per-channel row in the channel's place. -/
theorem channel_apply (v : Vec Ideal S128 .f32) :
    broadcastInDim S1x128x1 ![1] bcast_S128_S1x128x1_1 v (ix3 (0 : Fin 1) ch (0 : Fin 1)) = v (lane ch) :=
  broadcastInDim_apply (s := S128) (t := S1x128x1) ![1] bcast_S128_S1x128x1_1 v (ix3 (0 : Fin 1) ch (0 : Fin 1)) (lane ch) (fun a => by match a with | ⟨0, _⟩ => exact (if_neg (by decide : ¬ (128 : ℕ) = 1)).symm)

/-- A per-channel value over the windows. -/
theorem spread_apply (v : Vec Ideal S1x128x1 .f32) :
    broadcastInDim S16x128x4095 ![0, 1, 2] bcast_S1x128x1_S16x128x4095_0_1_2 v (ix3 b ch w)
      = v (ix3 (0 : Fin 1) ch (0 : Fin 1)) :=
  broadcastInDim_apply (s := S1x128x1) (t := S16x128x4095) ![0, 1, 2] bcast_S1x128x1_S16x128x4095_0_1_2 v (ix3 b ch w) (ix3 (0 : Fin 1) ch (0 : Fin 1))
    (fun a => by match a with
      | ⟨0, _⟩ => exact (if_pos rfl).symm
      | ⟨1, _⟩ => exact (if_neg (by decide : ¬ (128 : ℕ) = 1)).symm
      | ⟨2, _⟩ => exact (if_pos rfl).symm)

/-- The threshold of a channel. -/
theorem init_q (q : ℝ)
    (hq : Ideal.div ((1 : ℝ) : EReal) (((1 : ℝ) : EReal) + Ideal.exp (-(g (lane ch)))) = (q : EReal)) :
    (init X g r).main_v35_2 (ix3 (0 : Fin 1) ch (0 : Fin 1)) = (q : EReal) := by
  show (A_main_v22 X g r : Vec Ideal S1x128x1 .f32) (ix3 (0 : Fin 1) ch (0 : Fin 1)) = _
  unfold A_main_v22
  refine (channel_apply ch _).trans ?_
  show Ideal.div (Ideal.ofBits .f32 0x3F800000#32) (Ideal.ofBits .f32 0x3F800000#32 + Ideal.exp (-(g (lane ch)))) = _
  rw [word_one]; exact hq

/-- The scale of a channel. -/
theorem init_alpha (α : ℝ) (ha : r (lane ch) = (α : EReal)) :
    (init X g r).main_v35_0 (ix3 (0 : Fin 1) ch (0 : Fin 1)) = ((Real.exp α : ℝ) : EReal) := by
  show (A_main_v24 X g r : Vec Ideal S1x128x1 .f32) (ix3 (0 : Fin 1) ch (0 : Fin 1)) = _
  unfold A_main_v24
  refine (channel_apply ch _).trans ?_
  show Ideal.exp (r (lane ch)) = _
  rw [ha]; rfl

/-- Two over the scale, over the windows. -/
theorem two_over (α : ℝ) (ha : r (lane ch) = (α : EReal)) :
    (A_main_v28 X g r : Vec Ideal S16x128x4095 .f32) (ix3 b ch w) = ((2 / Real.exp α : ℝ) : EReal) := by
  unfold A_main_v28
  refine (spread_apply b ch w _).trans ?_
  show Ideal.div (Ideal.ofBits .f32 0x40000000#32) ((init X g r).main_v35_0 (ix3 (0 : Fin 1) ch (0 : Fin 1))) = _
  rw [init_alpha X g r ch α ha, word_two, coe_div _ _ (Real.exp_ne_zero α)]

/-- The lower end before the loop. -/
theorem init_lo (α q : ℝ) (x : Fin 8 → ℝ) (ha : r (lane ch) = (α : EReal))
    (hx : ∀ k : Fin 8, X (ix3 b ch (⟨4 * w.val + k.val, by omega⟩ : Fin 16384)) = (x k : EReal)) :
    (init X g r).main_v35_5 (ix3 b ch w) = (((interval (Real.exp α) q x 0).1 : ℝ) : EReal) := by
  have hm : (A_main_v25 X g r : Vec Ideal S16x128x4095 .f32) (ix3 b ch w) = ((lowest x : ℝ) : EReal) := by
    unfold A_main_v25
    refine (Host.reduce_eq_fold_single FloatOps.minimumf (A_main_v15 X g r) _ _ reduces_window h_S_ _).trans ?_
    rw [← fold_min]
    refine congrArg₂ (fun i f => (Finset.univ : Finset (Fin 8)).fold (min : EReal → EReal → EReal) i f) word_top (funext fun k => ?_)
    exact (congrArg (A_main_v15 X g r : Vec Ideal S16x128x4095x8 .f32) (lift_window b ch w k)).trans
      ((window_apply X g r b ch w k).trans (hx k))
  show (A_main_v29 X g r : Vec Ideal S16x128x4095 .f32) (ix3 b ch w) = _
  unfold A_main_v29
  refine (subf_apply (A_main_v25 X g r : FVec Ideal S16x128x4095 .f32) (A_main_v28 X g r) (ix3 b ch w)).trans ?_
  refine (congrArg₂ (fun u v : EReal => u - v) hm (two_over X g r b ch w α ha)).trans ?_
  rw [← EReal.coe_sub, interval]

/-- The upper end before the loop. -/
theorem init_hi (α q : ℝ) (x : Fin 8 → ℝ) (ha : r (lane ch) = (α : EReal))
    (hx : ∀ k : Fin 8, X (ix3 b ch (⟨4 * w.val + k.val, by omega⟩ : Fin 16384)) = (x k : EReal)) :
    (init X g r).main_v35_6 (ix3 b ch w) = (((interval (Real.exp α) q x 0).2 : ℝ) : EReal) := by
  have hm : (A_main_v30 X g r : Vec Ideal S16x128x4095 .f32) (ix3 b ch w) = ((highest x : ℝ) : EReal) := by
    unfold A_main_v30
    refine (Host.reduce_eq_fold_single FloatOps.maximumf (A_main_v15 X g r) _ _ reduces_window h_S_ _).trans ?_
    rw [← fold_max]
    refine congrArg₂ (fun i f => (Finset.univ : Finset (Fin 8)).fold (max : EReal → EReal → EReal) i f) word_bot (funext fun k => ?_)
    exact (congrArg (A_main_v15 X g r : Vec Ideal S16x128x4095x8 .f32) (lift_window b ch w k)).trans
      ((window_apply X g r b ch w k).trans (hx k))
  show (A_main_v34 X g r : Vec Ideal S16x128x4095 .f32) (ix3 b ch w) = _
  unfold A_main_v34
  refine (addf_apply (A_main_v30 X g r : FVec Ideal S16x128x4095 .f32) (A_main_v33 X g r) (ix3 b ch w)).trans ?_
  refine (congrArg₂ (fun u v : EReal => u + v) hm (two_over X g r b ch w α ha)).trans ?_
  rw [← EReal.coe_add, interval]

end Init

end Cert.ReferenceIdeal.Reading

end
-- ==== Proof.RefStep.lean ====
/-
  One step of the idealized reference's loop at a window, and its result: the middle of the interval after 20 steps.
-/
module

public import Idealize.ShloMosaic.PureOps.Ideal.Laws
public import Idealize.ShloMosaic.Lib.ValueIdx
public import Idealize.ShloMosaic.Lib.Pipeline.Value
public import proofs.«01_k».proof.Proof.Gen.ReferenceIdeal.Step
public import proofs.«01_k».proof.Proof.Scalars
public import proofs.«01_k».proof.Proof.RefInit

@[expose] public section

set_option maxRecDepth 16384

noncomputable section

namespace Cert.ReferenceIdeal.Reading

open Idealize.ShloMosaic Idealize.ShloMosaic.ValueIdx
open Cert.ReferenceIdeal Cert.ReferenceIdeal.Gen Cert.ReferenceIdeal.Step Cert.Bisection

/-- An element of the logistic of a scaled difference. -/
theorem logistic_apply {t : Shape} (o p a m y : FVec Ideal t .f32) (j : t.Idx) :
    Host.divf o (addf p (Host.exp (Host.negf (mulf a (subf m y))))) j
      = Ideal.div (o j) (p j + Ideal.exp (-(a j * (m j - y j)))) := rfl

/-- An element of a quotient. -/
theorem quotient_apply {t : Shape} (x y : FVec Ideal t .f32) (j : t.Idx) : Host.divf x y j = Ideal.div (x j) (y j) := rfl

/-- An element of half a sum. -/
theorem half_sum_apply {t : Shape} (o x y : FVec Ideal t .f32) (j : t.Idx) :
    mulf o (addf x y) j = o j * (x j + y j) := rfl

/-- An element of a comparison. -/
theorem above_apply {t : Shape} (x y : FVec Ideal t .f32) (j : t.Idx) : cmpf .ogt x y j = Ideal.cmp .ogt (x j) (y j) := rfl

/-- A broadcast constant's element. -/
theorem constant_apply {t : Shape} (h : S_.BroadcastsInDim t ![]) (v : BitVec 32) (j : t.Idx) :
    broadcastInDim t ![] h (constant S_ .f32 v : FVec Ideal S_ .f32) j = Ideal.ofBits .f32 v := rfl

/-- What a state holds for one window: its real interval, samples, scale and threshold. -/
structure Holds (s : State Ideal) (b : Fin 16) (ch : Fin 128) (w : Fin 4095) (A q : ℝ) (x : Fin 8 → ℝ) (e : ℝ × ℝ) : Prop where
  lo : s.main_v35_5 (ix3 b ch w) = ((e.1 : ℝ) : EReal)
  hi : s.main_v35_6 (ix3 b ch w) = ((e.2 : ℝ) : EReal)
  alpha : s.main_v35_0 (ix3 (0 : Fin 1) ch (0 : Fin 1)) = (A : EReal)
  windows : ∀ k : Fin 8, s.main_v35_1 (ix4 b ch w k) = (x k : EReal)
  q : s.main_v35_2 (ix3 (0 : Fin 1) ch (0 : Fin 1)) = (q : EReal)

section Step
variable {s : State Ideal} {b : Fin 16} {ch : Fin 128} {w : Fin 4095} {A q : ℝ} {x : Fin 8 → ℝ} {e : ℝ × ℝ}
variable (n : ℕ) (h : Holds s b ch w A q x e)
include h

/-- The middle of the interval. -/
theorem mid_value : (b5 n s : Vec Ideal S16x128x4095 .f32) (ix3 b ch w) = ((1 / 2 * (e.1 + e.2) : ℝ) : EReal) := by
  unfold b5 b4 b3 b2
  refine (half_sum_apply _ _ _ (ix3 b ch w)).trans ?_
  rw [constant_apply, h.lo, h.hi, word_half, ← EReal.coe_add, ← EReal.coe_mul]

/-- One sample's term of the sum. -/
theorem term_value (k : Fin 8) : (b19 n s : Vec Ideal S16x128x4095x8 .f32) (ix4 b ch w k)
    = ((sigmoid (A * (1 / 2 * (e.1 + e.2) - x k)) : ℝ) : EReal) := by
  have ha : (b10 n s : Vec Ideal S16x128x4095x8 .f32) (ix4 b ch w k) = (A : EReal) := by
    unfold b10 b6
    refine (broadcastInDim_apply (s := S1x128x1x1) (t := S16x128x4095x8) ![0, 1, 2, 3] bcast_S1x128x1x1_S16x128x4095x8_0_1_2_3 _ (ix4 b ch w k)
      (ix4 (0 : Fin 1) ch (0 : Fin 1) (0 : Fin 1))
      (fun a => by match a with
        | ⟨0, _⟩ => exact (if_pos rfl).symm
        | ⟨1, _⟩ => exact (if_neg (by decide : ¬ (128 : ℕ) = 1)).symm
        | ⟨2, _⟩ => exact (if_pos rfl).symm
        | ⟨3, _⟩ => exact (if_pos rfl).symm)).trans ?_
    refine (broadcastInDim_apply (s := S1x128x1) (t := S1x128x1x1) ![0, 1, 2] bcast_S1x128x1_S1x128x1x1_0_1_2 _ (ix4 (0 : Fin 1) ch (0 : Fin 1) (0 : Fin 1))
      (ix3 (0 : Fin 1) ch (0 : Fin 1))
      (fun a => by match a with
        | ⟨0, _⟩ => exact (if_pos rfl).symm
        | ⟨1, _⟩ => exact (if_neg (by decide : ¬ (128 : ℕ) = 1)).symm
        | ⟨2, _⟩ => exact (if_pos rfl).symm)).trans h.alpha
  have hm : (b8 n s : Vec Ideal S16x128x4095x8 .f32) (ix4 b ch w k) = ((1 / 2 * (e.1 + e.2) : ℝ) : EReal) := by
    unfold b8 b7
    refine (broadcastInDim_apply (s := S16x128x4095x1) (t := S16x128x4095x8) ![0, 1, 2, 3] bcast_S16x128x4095x1_S16x128x4095x8_0_1_2_3 _ (ix4 b ch w k)
      (ix4 b ch w (0 : Fin 1))
      (fun a => by match a with
        | ⟨0, _⟩ => exact (if_neg (by decide : ¬ (16 : ℕ) = 1)).symm
        | ⟨1, _⟩ => exact (if_neg (by decide : ¬ (128 : ℕ) = 1)).symm
        | ⟨2, _⟩ => exact (if_neg (by decide : ¬ (4095 : ℕ) = 1)).symm
        | ⟨3, _⟩ => exact (if_pos rfl).symm)).trans ?_
    refine (broadcastInDim_apply (s := S16x128x4095) (t := S16x128x4095x1) ![0, 1, 2] bcast_S16x128x4095_S16x128x4095x1_0_1_2 _ (ix4 b ch w (0 : Fin 1))
      (ix3 b ch w)
      (fun a => by match a with
        | ⟨0, _⟩ => exact (if_neg (by decide : ¬ (16 : ℕ) = 1)).symm
        | ⟨1, _⟩ => exact (if_neg (by decide : ¬ (128 : ℕ) = 1)).symm
        | ⟨2, _⟩ => exact (if_neg (by decide : ¬ (4095 : ℕ) = 1)).symm)).trans (mid_value n h)
  unfold b19 b18 b17 b16 b15 b14 b13 b12 b11 b9
  refine (logistic_apply _ _ _ _ _ (ix4 b ch w k)).trans ?_
  rw [constant_apply, ha, hm, h.windows k, word_one, ← EReal.coe_sub, ← EReal.coe_mul, coe_sigmoid]

/-- The mean of the terms. -/
theorem mean_value : (b24 n s : Vec Ideal S16x128x4095 .f32) (ix3 b ch w)
    = (((∑ k, sigmoid (A * (1 / 2 * (e.1 + e.2) - x k))) / 8 : ℝ) : EReal) := by
  have hs : (b21 n s : Vec Ideal S16x128x4095 .f32) (ix3 b ch w)
      = ((∑ k, sigmoid (A * (1 / 2 * (e.1 + e.2) - x k)) : ℝ) : EReal) := by
    unfold b21
    refine (Ideal.hostReduceAdd_single reducesTo_S16x128x4095x8_S16x128x4095_d3 reduces_window (b19 n s) _ (ix3 b ch w)).trans ?_
    rw [← coe_sum]
    refine (congrArg₂ (fun u v : EReal => u + v) word_zero (Finset.sum_congr rfl fun k _ =>
      (congrArg (b19 n s : Vec Ideal S16x128x4095x8 .f32) (lift_window b ch w k)).trans (term_value n h k))).trans ?_
    exact zero_add _
  unfold b24 b23 b22
  refine (quotient_apply _ _ (ix3 b ch w)).trans ?_
  rw [hs, constant_apply, word_eight, coe_div _ _ (by norm_num)]

/-- The step's choice is whether the mean is above the threshold. -/
theorem choice_iff : (b26 n s : IVec S16x128x4095 1) (ix3 b ch w) = 1#1 ↔ high A q x e.1 e.2 := by
  have hq : (b25 n s : Vec Ideal S16x128x4095 .f32) (ix3 b ch w) = (q : EReal) :=
    by unfold b25; exact (spread_apply b ch w s.main_v35_2).trans h.q
  have hb : (b26 n s : IVec S16x128x4095 1) (ix3 b ch w)
      = Ideal.cmp .ogt ((b24 n s : Vec Ideal S16x128x4095 .f32) (ix3 b ch w))
        ((b25 n s : Vec Ideal S16x128x4095 .f32) (ix3 b ch w)) := by
    unfold b26; exact above_apply _ _ (ix3 b ch w)
  rw [hb, mean_value n h, hq]
  exact coe_gt _ _

end Step

/-- A step takes the interval to the next. -/
theorem Holds.step {s : State Ideal} {b : Fin 16} {ch : Fin 128} {w : Fin 4095} {A q : ℝ} {x : Fin 8 → ℝ} {k : ℕ}
    (n : ℕ) (h : Holds s b ch w A q x (interval A q x k)) :
    Holds (step n s) b ch w A q x (interval A q x (k + 1)) := by
  have hlo : (b27 n s : Vec Ideal S16x128x4095 .f32) (ix3 b ch w)
      = if (b26 n s : IVec S16x128x4095 1) (ix3 b ch w) = 1#1 then s.main_v35_5 (ix3 b ch w)
        else (b5 n s : Vec Ideal S16x128x4095 .f32) (ix3 b ch w) := by unfold b27; rfl
  have hhi : (b28 n s : Vec Ideal S16x128x4095 .f32) (ix3 b ch w)
      = if (b26 n s : IVec S16x128x4095 1) (ix3 b ch w) = 1#1 then (b5 n s : Vec Ideal S16x128x4095 .f32) (ix3 b ch w)
        else s.main_v35_6 (ix3 b ch w) := by unfold b28; rfl
  have hc := choice_iff n h
  by_cases hh : high A q x (interval A q x k).1 (interval A q x k).2
  · have e : interval A q x (k + 1)
        = ((interval A q x k).1, 1 / 2 * ((interval A q x k).1 + (interval A q x k).2)) := by rw [interval, if_pos hh]
    rw [e]
    exact ⟨hlo.trans ((if_pos (hc.2 hh)).trans h.lo), hhi.trans ((if_pos (hc.2 hh)).trans (mid_value n h)),
      h.alpha, h.windows, h.q⟩
  · have e : interval A q x (k + 1)
        = (1 / 2 * ((interval A q x k).1 + (interval A q x k).2), (interval A q x k).2) := by rw [interval, if_neg hh]
    rw [e]
    exact ⟨hlo.trans ((if_neg fun t => hh (hc.1 t)).trans (mid_value n h)), hhi.trans ((if_neg fun t => hh (hc.1 t)).trans h.hi),
      h.alpha, h.windows, h.q⟩

/-- The states of the loop, from the first. -/
def states (X : Vec Ideal S16x128x16384 .f32) (g r : Vec Ideal S128 .f32) : ℕ → State Ideal
  | 0 => init X g r
  | n + 1 => step n (states X g r n)

/-- The result of the reference at an index: the middle of the interval after 20 steps. -/
theorem result_value (X : Vec Ideal S16x128x16384 .f32) (g r : Vec Ideal S128 .f32) (b : Fin 16) (ch : Fin 128)
    (w : Fin 4095) (q α : ℝ) (x : Fin 8 → ℝ)
    (hq : Ideal.div ((1 : ℝ) : EReal) (((1 : ℝ) : EReal) + Ideal.exp (-(g (lane ch)))) = (q : EReal))
    (ha : r (lane ch) = (α : EReal))
    (hx : ∀ k : Fin 8, X (ix3 b ch (⟨4 * w.val + k.val, by omega⟩ : Fin 16384)) = (x k : EReal)) :
    (R_main_v38 (states X g r 20) : Vec Ideal S16x128x4095 .f32) (ix3 b ch w)
      = ((1 / 2 * ((interval (Real.exp α) q x 20).1 + (interval (Real.exp α) q x 20).2) : ℝ) : EReal) := by
  have hs : ∀ n, Holds (states X g r n) b ch w (Real.exp α) q x (interval (Real.exp α) q x n) := by
    intro n
    induction n with
    | zero =>
      exact ⟨init_lo X g r b ch w α q x ha hx, init_hi X g r b ch w α q x ha hx, init_alpha X g r ch α ha,
        fun k => (window_apply X g r b ch w k).trans (hx k), init_q X g r ch q hq⟩
    | succ n ih => exact ih.step n
  unfold R_main_v38
  refine (half_sum_apply _ _ _ (ix3 b ch w)).trans ?_
  rw [constant_apply, (hs 20).lo, (hs 20).hi, word_half, ← EReal.coe_add, ← EReal.coe_mul]

end Cert.ReferenceIdeal.Reading

end
-- ==== Proof.Finite.lean ====
/-
  The precondition read back: where it holds, every sample and every logarithm of a scale is a real number.
-/
module

public import Idealize.ShloMosaic.PureOps.Ideal
public import Idealize.ShloMosaic.Lib.ReduceAll
public import proofs.«01_k».proof.Pre_finite

@[expose] public section

noncomputable section

namespace Cert.Pre_finite.Reading

open Idealize.ShloMosaic Cert.Pre_finite

/-- An extended real whose absolute value compares below plus infinity is a real. -/
theorem real_of_below (y : EReal)
    (h : Ideal.cmp .olt (max y (-y)) (Ideal.ofBits .f32 0x7F800000#32) = 1#1) : ∃ a : ℝ, y = (a : EReal) := by
  rw [show Ideal.ofBits .f32 0x7F800000#32 = ⊤ by simp [Ideal.ofBits, Ideal.ieee]] at h
  induction y using EReal.rec with
  | bot => exact absurd h (by simp [Ideal.cmp])
  | top => exact absurd h (by simp [Ideal.cmp])
  | coe a => exact ⟨a, rfl⟩

/-- An element of the comparison the precondition reduces. -/
theorem below_apply {t : Shape} (h : S_.BroadcastsInDim t ![]) (v : FVec Ideal t .f32) (j : t.Idx) :
    cmpf .olt (Host.absf v) (broadcastInDim t ![] h (constant S_ .f32 0x7F800000#32 : FVec Ideal S_ .f32)) j
      = Ideal.cmp .olt (max (v j : EReal) (-(v j : EReal))) (Ideal.ofBits .f32 0x7F800000#32) := rfl

/-- The one index of a scalar. -/
instance : Subsingleton S_.Idx := ⟨fun _ _ => funext fun a => a.elim0⟩

variable [Facts]

/-- Under the precondition every sample and every logarithm of a scale is a real. -/
theorem reals (X : FVec Ideal S16x128x16384 .f32) (g r : FVec Ideal S128 .f32) (h : fn X g r = fun _ => 1#1) :
    (∀ i, ∃ a : ℝ, X i = (a : EReal)) ∧ ∀ i, ∃ a : ℝ, r i = (a : EReal) := by
  have h0 := congrFun h (fun a => a.elim0)
  unfold fn at h0
  obtain ⟨hx, hr⟩ := IntOp.andi_eq_one.1 h0
  exact ⟨fun i => real_of_below _ ((below_apply Facts.bcast_S_S16x128x16384 X i).symm.trans (Host.reduce_andi_all _ _ _ _ _ hx i)),
    fun i => real_of_below _ ((below_apply Facts.bcast_S_S128 r i).symm.trans (Host.reduce_andi_all _ _ _ _ _ hr i))⟩

end Cert.Pre_finite.Reading

end
-- ==== Proof.Agree.lean ====
/-
  The idealized kernel's result is the idealized reference's, from the same finite arguments.
-/
module

public import proofs.«01_k».proof.Proof.Inputs
public import proofs.«01_k».proof.Proof.RefStep
public import proofs.«01_k».proof.Proof.Finite

@[expose] public section

set_option maxRecDepth 16384

noncomputable section

namespace Cert.Agree

open Idealize.ShloMosaic Idealize.ShloMosaic.ValueIdx Cert.Bisection

variable [Cert.Pre_finite.Facts]

/-- Where the precondition holds of the arguments, the reference's last state gives the kernel's output array. -/
theorem results_agree (m : (ℓ : Loc Cert.KernelIdeal.nD Cert.KernelIdeal.τ Cert.KernelIdeal.sig) → Buf (Elt Ideal) ℓ)
    (c : Dev Cert.KernelIdeal.nD)
    (X : FVec Ideal Cert.Pre_finite.S16x128x16384 .f32) (g r : FVec Ideal Cert.Pre_finite.S128 .f32)
    (hX : m (c.tc.loc Cert.KernelIdeal.main_arg0) = X) (hg : m (c.tc.loc Cert.KernelIdeal.main_arg1) = g)
    (hr : m (c.tc.loc Cert.KernelIdeal.main_arg2) = r)
    (hpre : Cert.Pre_finite.fn X g r = fun _ => 1#1) :
    (Cert.ReferenceIdeal.Step.R_main_v38 (Cert.ReferenceIdeal.Reading.states X g r 20)
      : FVec Ideal Cert.KernelIdeal.S16x128x4095 .f32) = Cert.KernelIdeal.Pool.outArray m c := by
  obtain ⟨hx, ha⟩ := Cert.Pre_finite.Reading.reals X g r hpre
  choose xs hxs using hx
  choose α hα using ha
  funext j
  rw [eq_ix3 j]
  obtain ⟨q, hq⟩ := sigmoid_real (g (lane (j 1)))
  exact (Cert.ReferenceIdeal.Reading.result_value X g r (j 0) (j 1) (j 2) q (α (lane (j 1))) _ hq (hα _) fun k => hxs _).trans
    (Cert.KernelIdeal.Pool.outArray_value m c (j 0) (j 1) (j 2) X g r hX hg hr q (α (lane (j 1))) _ hq (hα _) fun k => hxs _).symm

end Cert.Agree

end
-- ==== Proof.Same.lean ====
/-
  The program and its idealization are one text: no operation was rewritten, so at any arithmetic the two run alike.
-/
module

public import proofs.«01_k».proof.Proof.Gen.Kernel
public import proofs.«01_k».proof.Proof.Gen.KernelIdeal

@[expose] public section

set_option maxRecDepth 65536

noncomputable section

namespace Cert.Same

open Idealize.ShloMosaic

variable {F : FTy → Type} [FloatOps F]

set_option maxHeartbeats 4000000 in
/-- The two kernel bodies are one. -/
theorem body_eq : @Cert.Kernel.cc0__pool_kernel F _ _ = @Cert.KernelIdeal.cc0__pool_kernel F _ _ := rfl

/-- The two host functions are one. -/
theorem main_eq : (Cert.Kernel.main (F := F) : _) = Cert.KernelIdeal.main (F := F) := rfl

/-- The two tables of kernel bodies are one. -/
theorem bodies_eq : (Cert.Kernel.defs₀ (F := F) : _) = Cert.KernelIdeal.defs₀ (F := F) := by
  unfold Cert.Kernel.defs₀ Cert.KernelIdeal.defs₀
  refine congrArg Defs.onTc (funext fun l => funext fun a => ?_)
  match l, a with
  | 0, (t, s) =>
    exact congrFun (congrFun (congrFun (congrFun (congrFun (congrFun (congrFun (congrFun (congrFun (congrFun (congrFun
      body_eq _) _) _) _) _) _) _) _) _) _) _

/-- The two programs' definitions are one. -/
theorem defs_eq : (Cert.Kernel.defs (F := F) : _) = Cert.KernelIdeal.defs (F := F) := by
  unfold Cert.Kernel.defs Cert.KernelIdeal.defs
  exact congrArg (Pipeline.defs (Cert.KernelIdeal.pcfgs (F := F))) bodies_eq

end Cert.Same

end
-- ==== Proof.lean ====
/-
  The proof of `Cert.Claim`: the frames of the program, of its idealization and of the reference's idealization, and the
  equality of the two idealizations' results, assembled from the modules under `Proof/`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.StepRun
public import proofs.«01_k».proof.Proof.Gen.Pre_finite
public import proofs.«01_k».proof.Proof.Agree
public import proofs.«01_k».proof.Proof.Same
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The idealized kernel, at any arithmetic, runs, leaves its arguments unchanged and ends with every counter at zero. -/
theorem kernelIdeal_quiescent {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2))
        ∧ r.2.sem = fun _ => 0) :=
  (θ_run _ _ _).mono (fun _ h => ⟨h.1, h.2.2⟩)
    (θ_run_and (Cert.KernelIdeal.Pool.run_args m ρ) (Cert.KernelIdeal.Pool.run_out m ρ))

/-- The kernel, at any arithmetic, runs, leaves its arguments unchanged and ends with every counter at zero: it is the same
    text as its idealization. -/
theorem kernel_quiescent {F : FTy → Type} [FloatOps F]
    (m : (ℓ : Loc Cert.Kernel.nD Cert.Kernel.τ Cert.Kernel.sig) → Buf (Elt F) ℓ)
    (ρ : Dev Cert.Kernel.nD → PrngReg) :
    θ_run (Cert.Kernel.defs (F := F)) (onTc (τ := Cert.Kernel.τ) (Cert.Kernel.main (F := F)))
      ⟨m, fun _ => 0, ρ⟩ (fun r => (∀ c : Dev Cert.Kernel.nD,
        r.2.mem (c.tc.loc Cert.Kernel.main_arg0) = m (c.tc.loc Cert.Kernel.main_arg0)
        ∧ r.2.mem (c.tc.loc Cert.Kernel.main_arg1) = m (c.tc.loc Cert.Kernel.main_arg1)
        ∧ r.2.mem (c.tc.loc Cert.Kernel.main_arg2) = m (c.tc.loc Cert.Kernel.main_arg2))
        ∧ r.2.sem = fun _ => 0) :=
  (congrArg (fun d => θ_run d (onTc (τ := Cert.KernelIdeal.τ) (Cert.KernelIdeal.main (F := F))) ⟨m, fun _ => 0, ρ⟩ _)
    Cert.Same.defs_eq).mpr (kernelIdeal_quiescent m ρ)

/-- The idealized reference runs, leaves its arguments unchanged and ends with every counter at zero. -/
theorem referenceIdeal_quiescent
    (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2))
        ∧ r.2.sem = fun _ => 0) :=
  (θ_run _ _ _).mono (fun r h => ⟨fun c => (h c).2, sem_eq_zero_of_no_sems (by decide) r.2⟩)
    (Cert.ReferenceIdeal.Value.run (F := Ideal) m ρ)

/-- The idealized kernel ends with its output array and its arguments unchanged. -/
theorem kernelIdeal_value (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem (c.tc.loc Cert.KernelIdeal.main_v0) = Cert.KernelIdeal.Pool.outArray m c
        ∧ r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)) :=
  (θ_run _ _ _).mono (fun _ h c => ⟨h.2.1 c, h.1 c⟩)
    (θ_run_and (Cert.KernelIdeal.Pool.run_args m ρ) (Cert.KernelIdeal.Pool.run_out m ρ))

/-- The idealized reference ends with the result its last state gives and its arguments unchanged. -/
theorem referenceIdeal_value
    (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem (c.tc.loc Cert.ReferenceIdeal.main_v38)
          = Cert.ReferenceIdeal.Step.R_main_v38 (Cert.ReferenceIdeal.Reading.states
              (m (c.tc.loc Cert.ReferenceIdeal.main_arg0)) (m (c.tc.loc Cert.ReferenceIdeal.main_arg1))
              (m (c.tc.loc Cert.ReferenceIdeal.main_arg2)) 20)
        ∧ r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)) :=
  Cert.ReferenceIdeal.StepRun.run_iter m ρ (fun c => Cert.ReferenceIdeal.Reading.states
      (m (c.tc.loc Cert.ReferenceIdeal.main_arg0)) (m (c.tc.loc Cert.ReferenceIdeal.main_arg1))
      (m (c.tc.loc Cert.ReferenceIdeal.main_arg2)))
    (fun _ => rfl) (fun _ _ => rfl)

/-- Everything the certificate claims. -/
theorem claim : Cert.Claim :=
  ⟨Cert.Kernel.Gen.facts, Cert.KernelIdeal.Gen.facts, Cert.ReferenceIdeal.Gen.facts, Cert.Pre_finite.Gen.facts,
    fun m ρ _ => kernel_quiescent m ρ,
    fun m ρ _ => kernelIdeal_quiescent m ρ,
    fun m ρ _ => kernelIdeal_quiescent m ρ,
    fun m ρ _ => referenceIdeal_quiescent m ρ,
    fun m ρ _ => referenceIdeal_quiescent m ρ,
    trivial,
    fun m ρ m' ρ' hpre hargs => ⟨fun c => Cert.KernelIdeal.Pool.outArray m c, kernelIdeal_value m ρ,
      (θ_run _ _ _).mono (fun _ h c => ⟨(h c).1.trans
          (Cert.Agree.results_agree m c _ _ _ (hargs c).1.symm (hargs c).2.1.symm (hargs c).2.2.symm
            (by rw [(hargs c).1, (hargs c).2.1, (hargs c).2.2]; exact hpre c)), (h c).2⟩)
        (referenceIdeal_value m' ρ')⟩⟩

end Cert.Proof

end
